-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x64x48x48 : Shape := ⟨4, ![4, 64, 48, 48]⟩
abbrev S48x48x48x48 : Shape := ⟨4, ![48, 48, 48, 48]⟩
abbrev S256x48x48 : Shape := ⟨3, ![256, 48, 48]⟩
abbrev S2304x48x48 : Shape := ⟨3, ![2304, 48, 48]⟩
abbrev S6x1x1 : Shape := ⟨3, ![6, 1, 1]⟩
abbrev S_ : Shape := ⟨0, ![]⟩
abbrev S384x48x48 : Shape := ⟨3, ![384, 48, 48]⟩
abbrev S256x8x48 : Shape := ⟨3, ![256, 8, 48]⟩
abbrev S256x16x48 : Shape := ⟨3, ![256, 16, 48]⟩
abbrev S1x1x1 : Shape := ⟨3, ![1, 1, 1]⟩
abbrev S2304x512 : Shape := ⟨2, ![2304, 512]⟩
abbrev S256x768 : Shape := ⟨2, ![256, 768]⟩
abbrev S64x768 : Shape := ⟨2, ![64, 768]⟩
abbrev S768 : Shape := ⟨1, ![768]⟩
abbrev S1x768 : Shape := ⟨2, ![1, 768]⟩
abbrev S768x256 : Shape := ⟨2, ![768, 256]⟩
abbrev S256x384 : Shape := ⟨2, ![256, 384]⟩
abbrev S64x384 : Shape := ⟨2, ![64, 384]⟩
abbrev S384 : Shape := ⟨1, ![384]⟩
abbrev S1x384 : Shape := ⟨2, ![1, 384]⟩
abbrev S384x256 : Shape := ⟨2, ![384, 256]⟩
abbrev S384x512 : Shape := ⟨2, ![384, 512]⟩
abbrev S384x2304 : Shape := ⟨2, ![384, 2304]⟩
abbrev S1x384x512 : Shape := ⟨3, ![1, 384, 512]⟩
abbrev S1 : Shape := ⟨1, ![1]⟩
abbrev S1x384x48x48 : Shape := ⟨4, ![1, 384, 48, 48]⟩
abbrev S1x1x1x1 : Shape := ⟨4, ![1, 1, 1, 1]⟩

abbrev nBuf : Space → Nat
  | .hbm => 20
  | .vmem => 12
  | .smem => 4
  | _ => 0

abbrev bufTy : (tb : Table) → Fin (tcTables nBuf tb) → BufTy
  | .hbm, ⟨0, _⟩ => ⟨S4x64x48x48, .f32⟩
  | .hbm, ⟨1, _⟩ => ⟨S4x64x48x48, .f32⟩
  | .hbm, ⟨2, _⟩ => ⟨S4x64x48x48, .f32⟩
  | .hbm, ⟨3, _⟩ => ⟨S4x64x48x48, .f32⟩
  | .hbm, ⟨4, _⟩ => ⟨S48x48x48x48, .f32⟩
  | .hbm, ⟨5, _⟩ => ⟨S256x48x48, .f32⟩
  | .hbm, ⟨6, _⟩ => ⟨S256x48x48, .f32⟩
  | .hbm, ⟨7, _⟩ => ⟨S256x48x48, .f32⟩
  | .hbm, ⟨8, _⟩ => ⟨S256x48x48, .f32⟩
  | .hbm, ⟨9, _⟩ => ⟨S2304x48x48, .f32⟩
  | .hbm, ⟨10, _⟩ => ⟨S6x1x1, .f32⟩
  | .hbm, ⟨11, _⟩ => ⟨S6x1x1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S384x48x48, .f32⟩
  | .local _ .vmem, ⟨1, _⟩ => ⟨S384x48x48, .f32⟩
  | .local _ .vmem, ⟨2, _⟩ => ⟨S256x8x48, .f32⟩
  | .local _ .vmem, ⟨3, _⟩ => ⟨S256x8x48, .f32⟩
  | .local _ .vmem, ⟨4, _⟩ => ⟨S256x8x48, .f32⟩
  | .local _ .vmem, ⟨5, _⟩ => ⟨S256x8x48, .f32⟩
  | .local _ .vmem, ⟨6, _⟩ => ⟨S256x16x48, .f32⟩
  | .local _ .vmem, ⟨7, _⟩ => ⟨S256x16x48, .f32⟩
  | .local _ .vmem, ⟨8, _⟩ => ⟨S256x16x48, .f32⟩
  | .local _ .vmem, ⟨9, _⟩ => ⟨S256x16x48, .f32⟩
  | .local _ .vmem, ⟨10, _⟩ => ⟨S2304x512, .bf16⟩
  | .local _ .vmem, ⟨11, _⟩ => ⟨S2304x512, .bf16⟩
  | .local _ .smem, ⟨0, _⟩ => ⟨S1x1x1, .f32⟩
  | .local _ .smem, ⟨1, _⟩ => ⟨S1x1x1, .f32⟩
  | .local _ .smem, ⟨2, _⟩ => ⟨S1x1x1, .f32⟩
  | .local _ .smem, ⟨3, _⟩ => ⟨S1x1x1, .f32⟩
  | _, _ => ⟨S4x64x48x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5_0 : Ref sig .tc := ⟨.hbm, 10, rfl⟩
abbrev main_call0_v5_1 : Ref sig .tc := ⟨.hbm, 11, rfl⟩
abbrev main_call0_cst : Ref sig .tc := ⟨.hbm, 12, rfl⟩
abbrev main_call0_v6 : Ref sig .tc := ⟨.hbm, 13, rfl⟩
abbrev main_call0_v7 : Ref sig .tc := ⟨.hbm, 14, rfl⟩
abbrev main_call0_cst_0 : Ref sig .tc := ⟨.hbm, 15, rfl⟩
abbrev main_call0_v8 : Ref sig .tc := ⟨.hbm, 16, rfl⟩
abbrev main_call0_cst_1 : Ref sig .tc := ⟨.hbm, 17, rfl⟩
abbrev main_call0_v9 : Ref sig .tc := ⟨.hbm, 18, rfl⟩
abbrev main_v0 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_stg5_0 : Ref sig .tc := ⟨.smem, 0, rfl⟩
abbrev cc0_stg5_1 : Ref sig .tc := ⟨.smem, 1, rfl⟩
abbrev cc0_stg6_0 : Ref sig .tc := ⟨.smem, 2, rfl⟩
abbrev cc0_stg6_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![9], ![false]⟩

def k0_cond1 (i : grid0.Coords) : BitVec 1 :=
  let arg0 : BitVec 32 := BitVec.ofNat 32 (i 0).val
  let c3_i32 : BitVec 32 := 3#32
  let v0 : BitVec 1 := Scalar.cmpi .slt arg0 c3_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let c768_i32 : BitVec 32 := 768#32
  let v118 : BitVec 32 := Scalar.muli arg0 c768_i32
  let v119 : Index := Scalar.indexCast v118
  let c0_30 : Index := 0#32
  ![v119.toNat, 0]
def k0_off2 (i : grid0.Coords) : Fin 2 → Nat :=
  let arg0 : BitVec 32 := BitVec.ofNat 32 (i 0).val
  let c768_i32 : BitVec 32 := 768#32
  let v118 : BitVec 32 := Scalar.muli arg0 c768_i32
  let v123 : Index := Scalar.indexCast v118
  let c256 : Index := 256#32
  ![v123.toNat, 256]
def k0_cond2 (i : grid0.Coords) : BitVec 1 :=
  let arg0 : BitVec 32 := BitVec.ofNat 32 (i 0).val
  let c3_i32_0 : BitVec 32 := 3#32
  let v3 : BitVec 1 := Scalar.cmpi .sge arg0 c3_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let c3_i32 : BitVec 32 := 3#32
  let v0 : BitVec 32 := Scalar.subi arg0 c3_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_1 (i : grid0.Coords) : Fin 3 → Nat :=
  let arg0 : BitVec 32 := BitVec.ofNat 32 (i 0).val
  let c3_i32 : BitVec 32 := 3#32
  let v0 : BitVec 32 := Scalar.subi arg0 c3_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let c3_i32 : BitVec 32 := 3#32
  let v0 : BitVec 32 := Scalar.subi arg0 c3_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let c2_i32 : BitVec 32 := 2#32
  let v0 : BitVec 32 := Scalar.minsi arg0 c2_i32
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 3 → Nat :=
  let arg0 : BitVec 32 := BitVec.ofNat 32 (i 0).val
  let c2_i32 : BitVec 32 := 2#32
  let v0 : BitVec 32 := Scalar.minsi arg0 c2_i32
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 3 → Nat :=
  let arg0 : BitVec 32 := BitVec.ofNat 32 (i 0).val
  let c3_i32 : BitVec 32 := 3#32
  let v0 : BitVec 32 := Scalar.subi arg0 c3_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_6 (i : grid0.Coords) : Fin 3 → Nat :=
  let arg0 : BitVec 32 := BitVec.ofNat 32 (i 0).val
  let c3_i32 : BitVec 32 := 3#32
  let v0 : BitVec 32 := Scalar.subi arg0 c3_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 2 → Memref sig .tc .vmem S384x48x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8x48 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x8x48 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x16x48 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x16x48 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .smem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .smem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4x64x48x48 : Shape := ⟨4, ![4, 64, 48, 48]⟩
abbrev S48x48x48x48 : Shape := ⟨4, ![48, 48, 48, 48]⟩
abbrev S2304x2304 : Shape := ⟨2, ![2304, 2304]⟩
abbrev S_ : Shape := ⟨0, ![]⟩
abbrev S4x64x2304 : Shape := ⟨3, ![4, 64, 2304]⟩
abbrev S4x2304x2304 : Shape := ⟨3, ![4, 2304, 2304]⟩
abbrev S4x2304 : Shape := ⟨2, ![4, 2304]⟩
abbrev S4x2304x1 : Shape := ⟨3, ![4, 2304, 1]⟩
abbrev S4x1x2304 : Shape := ⟨3, ![4, 1, 2304]⟩
abbrev S1x2304x2304 : Shape := ⟨3, ![1, 2304, 2304]⟩
abbrev S4 : Shape := ⟨1, ![4]⟩

abbrev nBuf : Space → Nat
  | .hbm => 71
  | .vmem => 0
  | .smem => 0
  | _ => 0

abbrev bufTy : (tb : Table) → Fin (tcTables nBuf tb) → BufTy
  | .hbm, ⟨0, _⟩ => ⟨S4x64x48x48, .f32⟩
  | .hbm, ⟨1, _⟩ => ⟨S4x64x48x48, .f32⟩
  | .hbm, ⟨2, _⟩ => ⟨S4x64x48x48, .f32⟩
  | .hbm, ⟨3, _⟩ => ⟨S4x64x48x48, .f32⟩
  | .hbm, ⟨4, _⟩ => ⟨S48x48x48x48, .f32⟩
  | .hbm, ⟨5, _⟩ => ⟨S2304x2304, .f32⟩
  | .hbm, ⟨6, _⟩ => ⟨S_, .f32⟩
  | .hbm, ⟨7, _⟩ => ⟨S2304x2304, .f32⟩
  | .hbm, ⟨8, _⟩ => ⟨S2304x2304, .i1⟩
  | .hbm, ⟨9, _⟩ => ⟨S2304x2304, .f32⟩
  | .hbm, ⟨10, _⟩ => ⟨S4x64x2304, .f32⟩
  | .hbm, ⟨11, _⟩ => ⟨S4x64x2304, .f32⟩
  | .hbm, ⟨12, _⟩ => ⟨S4x64x2304, .f32⟩
  | .hbm, ⟨13, _⟩ => ⟨S4x64x2304, .f32⟩
  | .hbm, ⟨14, _⟩ => ⟨S4x2304x2304, .f32⟩
  | .hbm, ⟨15, _⟩ => ⟨S4x64x2304, .f32⟩
  | .hbm, ⟨16, _⟩ => ⟨S_, .f32⟩
  | .hbm, ⟨17, _⟩ => ⟨S4x2304, .f32⟩
  | .hbm, ⟨18, _⟩ => ⟨S4x2304, .f32⟩
  | .hbm, ⟨19, _⟩ => ⟨S_, .f32⟩
  | .hbm, ⟨20, _⟩ => ⟨S4x2304, .f32⟩
  | .hbm, ⟨21, _⟩ => ⟨S4x2304, .f32⟩
  | .hbm, ⟨22, _⟩ => ⟨S4x64x2304, .f32⟩
  | .hbm, ⟨23, _⟩ => ⟨S_, .f32⟩
  | .hbm, ⟨24, _⟩ => ⟨S4x2304, .f32⟩
  | .hbm, ⟨25, _⟩ => ⟨S4x2304, .f32⟩
  | .hbm, ⟨26, _⟩ => ⟨S_, .f32⟩
  | .hbm, ⟨27, _⟩ => ⟨S4x2304, .f32⟩
  | .hbm, ⟨28, _⟩ => ⟨S4x2304, .f32⟩
  | .hbm, ⟨29, _⟩ => ⟨S4x2304x1, .f32⟩
  | .hbm, ⟨30, _⟩ => ⟨S4x1x2304, .f32⟩
  | .hbm, ⟨31, _⟩ => ⟨S4x2304x2304, .f32⟩
  | .hbm, ⟨32, _⟩ => ⟨S4x2304x2304, .f32⟩
  | .hbm, ⟨33, _⟩ => ⟨S4x2304x2304, .f32⟩
  | .hbm, ⟨34, _⟩ => ⟨S4x2304x2304, .f32⟩
  | .hbm, ⟨35, _⟩ => ⟨S4x2304x2304, .f32⟩
  | .hbm, ⟨36, _⟩ => ⟨S4x64x2304, .f32⟩
  | .hbm, ⟨37, _⟩ => ⟨S_, .f32⟩
  | .hbm, ⟨38, _⟩ => ⟨S4x2304, .f32⟩
  | .hbm, ⟨39, _⟩ => ⟨S4x2304, .f32⟩
  | .hbm, ⟨40, _⟩ => ⟨S_, .f32⟩
  | .hbm, ⟨41, _⟩ => ⟨S4x2304, .f32⟩
  | .hbm, ⟨42, _⟩ => ⟨S4x2304, .f32⟩
  | .hbm, ⟨43, _⟩ => ⟨S4x64x2304, .f32⟩
  | .hbm, ⟨44, _⟩ => ⟨S_, .f32⟩
  | .hbm, ⟨45, _⟩ => ⟨S4x2304, .f32⟩
  | .hbm, ⟨46, _⟩ => ⟨S4x2304, .f32⟩
  | .hbm, ⟨47, _⟩ => ⟨S_, .f32⟩
  | .hbm, ⟨48, _⟩ => ⟨S4x2304, .f32⟩
  | .hbm, ⟨49, _⟩ => ⟨S4x2304, .f32⟩
  | .hbm, ⟨50, _⟩ => ⟨S4x2304x1, .f32⟩
  | .hbm, ⟨51, _⟩ => ⟨S4x1x2304, .f32⟩
  | .hbm, ⟨52, _⟩ => ⟨S4x2304x2304, .f32⟩
  | .hbm, ⟨53, _⟩ => ⟨S4x2304x2304, .f32⟩
  | .hbm, ⟨54, _⟩ => ⟨S4x2304x2304, .f32⟩
  | .hbm, ⟨55, _⟩ => ⟨S4x2304x2304, .f32⟩
  | .hbm, ⟨56, _⟩ => ⟨S4x2304x2304, .f32⟩
  | .hbm, ⟨57, _⟩ => ⟨S4x2304x2304, .f32⟩
  | .hbm, ⟨58, _⟩ => ⟨S1x2304x2304, .f32⟩
  | .hbm, ⟨59, _⟩ => ⟨S4x2304x2304, .f32⟩
  | .hbm, ⟨60, _⟩ => ⟨S4x2304x2304, .f32⟩
  | .hbm, ⟨61, _⟩ => ⟨S_, .f32⟩
  | .hbm, ⟨62, _⟩ => ⟨S4, .f32⟩
  | .hbm, ⟨63, _⟩ => ⟨S_, .f32⟩
  | .hbm, ⟨64, _⟩ => ⟨S_, .f32⟩
  | .hbm, ⟨65, _⟩ => ⟨S4, .f32⟩
  | .hbm, ⟨66, _⟩ => ⟨S4, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | _, _ => ⟨S4x64x48x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_v0 : Ref sig .tc := ⟨.hbm, 15, rfl⟩
abbrev main_call0_cst : Ref sig .tc := ⟨.hbm, 16, rfl⟩
abbrev main_call0_v1 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_call1_v0 : Ref sig .tc := ⟨.hbm, 22, rfl⟩
abbrev main_call1_cst : Ref sig .tc := ⟨.hbm, 23, rfl⟩
abbrev main_call1_v1 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_call2_v0 : Ref sig .tc := ⟨.hbm, 36, rfl⟩
abbrev main_call2_cst : Ref sig .tc := ⟨.hbm, 37, rfl⟩
abbrev main_call2_v1 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_call3_v0 : Ref sig .tc := ⟨.hbm, 43, rfl⟩
abbrev main_call3_cst : Ref sig .tc := ⟨.hbm, 44, rfl⟩
abbrev main_call3_v1 : Ref sig .tc := ⟨.hbm, 45, rfl⟩
abbrev main_v25 : Ref sig .tc := ⟨.hbm, 46, rfl⟩
abbrev main_cst_3 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_4 : Ref sig .tc := ⟨.hbm, 61, rfl⟩
abbrev main_v39 : Ref sig .tc := ⟨.hbm, 62, rfl⟩
abbrev main_cst_5 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_6 : Ref sig .tc := ⟨.hbm, 67, rfl⟩
abbrev main_v43 : Ref sig .tc := ⟨.hbm, 68, rfl⟩
abbrev main_cst_7 : Ref sig .tc := ⟨.hbm, 69, rfl⟩
abbrev main_v44 : Ref sig .tc := ⟨.hbm, 70, rfl⟩

abbrev nD : Nat := 1
abbrev τ : Topo := Topo.v7x

variable {F : FTy → Type} [FloatOps F]
-- ==== Proof.Body.lean ====
module

public import proofs.«01_k».proof.Proof.Gen.KernelIdeal.Skeleton
public import proofs.«01_k».proof.Proof.Gen.KernelIdeal.Frame
public import Idealize.ShloMosaic.Lib.VecWindow

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition under which a grid point fills its rows of the two scratch matrices. -/
abbrev fills (i : grid0.Coords) : Prop := k0_cond1 i = 1#1
/-- The condition under which a grid point computes its band's two sums. -/
abbrev sums (i : grid0.Coords) : Prop := k0_cond2 i = 1#1

/-- The points before point 3 fill. -/
theorem fills_iff : ∀ t : Fin cfg0.N, fills (grid0.coords t) ↔ t.val < 3 :=
  (by decide +kernel : ∀ t : Fin grid0.N, fills (grid0.coords t) ↔ t.val < 3)
/-- The points from point 3 on sum. -/
theorem sums_iff : ∀ t : Fin cfg0.N, sums (grid0.coords t) ↔ 3 ≤ t.val :=
  (by decide +kernel : ∀ t : Fin grid0.N, sums (grid0.coords t) ↔ 3 ≤ t.val)

/-- The transposed normalized columns of the first image's rows (the left half of a filled band). -/
def colsL (x : Vec F S256x16x48 .f32) : FVec F S768x256 .f32 :=
  k0_pay15 (k0_pay10 x) (k0_pay11 x) (k0_pay12 x) (k0_pay13 x) (k0_pay14 x) (Scalar.ofBits .f32 0x322BCC77#32)
/-- What is stored to the first scratch matrix's left half, -/
def hiL (x : Vec F S256x16x48 .f32) : FVec F S768x256 .bf16 := k0_pay4 (colsL x)
/-- its right half, -/
def hiR (x : Vec F S256x16x48 .f32) : FVec F S768x256 .bf16 :=
  k0_pay5 (k0_pay16 x) (k0_pay17 x) (k0_pay18 x) (k0_pay19 x) (k0_pay20 x)
/-- the second scratch matrix's left half -/
def loL (x : Vec F S256x16x48 .f32) : FVec F S768x256 .bf16 := k0_pay6 (colsL x)
/-- and its right half. -/
def loR (x : Vec F S256x16x48 .f32) : FVec F S768x256 .bf16 :=
  k0_pay7 (k0_pay16 x) (k0_pay17 x) (k0_pay18 x) (k0_pay19 x) (k0_pay20 x)

/-- A band's weighted sum, from the distances, the two images' rows and the two scratch matrices. -/
def bandAcc (x0 : Vec F S384x48x48 .f32) (x1 x2 : Vec F S256x8x48 .f32) (hi lo : Vec F S2304x512 .bf16) : F .f32 :=
  k0_pay34 (k0_pay27 (k0_pay22 x1) (k0_pay23 x1) (k0_pay24 x1) (k0_pay25 x1) (k0_pay26 x1) (Scalar.ofBits .f32 0x322BCC77#32))
    (k0_pay28 x2) (k0_pay29 x2) (k0_pay30 x2) (k0_pay31 x2) (k0_pay32 x2) x0 hi lo
/-- A band's count of near pairs. -/
def bandCnt (x0 : Vec F S384x48x48 .f32) : F .f32 := k0_pay8 (k0_pay35 x0)

/-- The left and the right rectangle of a filling point's rows. -/
abbrev rectL (i : grid0.Coords) (h : fills i) : Rect S2304x512 := Rect.unit (s := S2304x512) (k0_off1 i) S768x256.size (k0_off1_inb i h)
abbrev rectR (i : grid0.Coords) (h : fills i) : Rect S2304x512 := Rect.unit (s := S2304x512) (k0_off2 i) S768x256.size (k0_off2_inb i h)

/-- `d'` is `d` with the point's rows filled: `a` in the left half, `b` in the right. -/
def Filled (i : grid0.Coords) (h : fills i) (a b : FVec F S768x256 .bf16) (d d' : Vec F S2304x512 .bf16) : Prop :=
  (∀ x, d' ((rectL i h).emb x) = a x) ∧ (∀ x, d' ((rectR i h).emb x) = b x)
    ∧ ∀ y, y ∉ (rectL i h).set → y ∉ (rectR i h).set → d' y = d y

/-- The two rectangles share no place: their columns differ. -/
theorem rectL_not_mem (i : grid0.Coords) (h : fills i) (x : (rectL i h).shape.Idx) : (rectL i h).emb x ∉ (rectR i h).set := by
  refine Rect.not_mem_set_of_axis _ _ 1 256 256 rfl rfl rfl (Or.inl ?_)
  have hx : (x 1).val < 256 := (x 1).isLt
  show 0 + 1 * (x 1).val < 256
  omega

/-- Two writes, the right rectangle's last, leave the matrix filled. -/
theorem filled_writes {arg : Memref sig .tc .vmem S2304x512 .bf16} (i : grid0.Coords) (h : fills i) (a b : FVec F S768x256 .bf16)
    (f : arg.view.ty.Contents (Elt F)) :
    Filled i h a b (arg.view.read (Elt F) f)
      (arg.view.read (Elt F) (arg.view.writes (Elt F) f [⟨rectR i h, b⟩, ⟨rectL i h, a⟩])) := by
  refine ⟨fun x => ?_, fun x => ?_, fun y hl hr => ?_⟩
  · exact (View.read_writes_cons_miss arg.view f ⟨rectR i h, b⟩ [⟨rectL i h, a⟩] _ (rectL_not_mem i h x)).trans
      (View.read_writes_cons_emb arg.view f (rectL i h) a [] x)
  · exact View.read_writes_cons_emb arg.view f (rectR i h) b [⟨rectL i h, a⟩] x
  · exact (View.read_writes_cons_miss arg.view f ⟨rectR i h, b⟩ [⟨rectL i h, a⟩] y hr).trans
      (View.read_writes_cons_miss arg.view f ⟨rectL i h, a⟩ [] y hl)

set_option maxHeartbeats 1000000 in
/-- A filling point's body: the inputs and the outputs' buffers stay as they were, each scratch matrix has its rows filled. -/
theorem run_fills (c : Dev nD) (i : grid0.Coords) (arg1 : Memref sig .tc .vmem S384x48x48 .f32) (harg1 : arg1.IsWhole) (arg2 : Memref sig .tc .vmem S256x8x48 .f32) (harg2 : arg2.IsWhole) (arg3 : Memref sig .tc .vmem S256x8x48 .f32) (harg3 : arg3.IsWhole) (arg4 : Memref sig .tc .vmem S256x16x48 .f32) (harg4 : arg4.IsWhole) (arg5 : Memref sig .tc .vmem S256x16x48 .f32) (harg5 : arg5.IsWhole) (arg6 : Memref sig .tc .smem S1x1x1 .f32) (harg6 : arg6.IsWhole) (arg7 : Memref sig .tc .smem S1x1x1 .f32) (harg7 : arg7.IsWhole) (arg8 : Memref sig .tc .vmem S2304x512 .bf16) (harg8 : arg8.IsWhole) (arg9 : Memref sig .tc .vmem S2304x512 .bf16) (harg9 : arg9.IsWhole) (hc0 : fills i) (hc1 : ¬sums i)
    (x0 : Vec F S384x48x48 .f32) (x1 : Vec F S256x8x48 .f32) (x2 : Vec F S256x8x48 .f32) (x3 : Vec F S256x16x48 .f32) (x4 : Vec F S256x16x48 .f32) (y5 y6 : Vec F S1x1x1 .f32) (d8 d9 : Vec F S2304x512 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare y5 ∗ owns (c : Thread nD τ) arg7 fullShare y6 ∗ owns (c : Thread nD τ) arg8 fullShare d8 ∗ owns (c : Thread nD τ) arg9 fullShare d9
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare y5 ∗ owns (c : Thread nD τ) arg7 fullShare y6
              ∗ (∃ d, ⌜Filled i hc0 (hiL x3) (hiR x4) d8 d⌝ ∗ owns (c : Thread nD τ) arg8 fullShare d) ∗ (∃ d, ⌜Filled i hc0 (loL x3) (loR x4) d9 d⌝ ∗ owns (c : Thread nD τ) arg9 fullShare d)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9) K := by
    intro E K
    simp only [cc0__fused_kernel_eq_skeleton]; unfold cc0__fused_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f8, %hf8, HS0⟩, ⟨%f9, %hf9, HS1⟩, Hk⟩
    obtain rfl := harg1.eq_unread hf0; obtain rfl := harg2.eq_unread hf1; obtain rfl := harg3.eq_unread hf2; obtain rfl := harg4.eq_unread hf3; obtain rfl := harg5.eq_unread hf4
    have e4 : View.readAt (Elt F) arg4.view (Rect.unit (s := S256x16x48) ![0, 0, 0] S256x16x48.size inb_S256x16x48_S256x16x48_0_0_0).toLoadRect (harg4.unread x3) = x3 := (View.readAt_full _ _ _).trans (harg4.read_unread _)
    have e5 : View.readAt (Elt F) arg5.view (Rect.unit (s := S256x16x48) ![0, 0, 0] S256x16x48.size inb_S256x16x48_S256x16x48_0_0_0).toLoadRect (harg5.unread x4) = x4 := (View.readAt_full _ _ _).trans (harg5.read_unread _)
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact hf5
      iexact H5
    isplitl [H6]
    · iexists _; isplitr; · ipureintro; exact hf6
      iexact H6
    isplitl [HS0]
    · iexists arg8.view.read (Elt F) (arg8.view.writes (Elt F) f8 [⟨rectR i hc0, hiR x4⟩, ⟨rectL i hc0, hiL x3⟩])
      isplitr
      · ipureintro; subst hf8; exact filled_writes i hc0 _ _ f8
      iexists _; isplitr; swap; · iexact HS0
      ipureintro; sl_unfold_run_names
      simp only [hiL, hiR, colsL]
    iexists arg9.view.read (Elt F) (arg9.view.writes (Elt F) f9 [⟨rectR i hc0, loR x4⟩, ⟨rectL i hc0, loL x3⟩])
    isplitr
    · ipureintro; subst hf9; exact filled_writes i hc0 _ _ f9
    iexists _; isplitr; swap; · iexact HS1
    ipureintro; sl_unfold_run_names
    simp only [loL, loR, colsL]

set_option maxHeartbeats 1000000 in
/-- A summing point's body: the inputs and the scratch matrices stay as they were, the two outputs' buffers take the band's sums. -/
theorem run_sums (c : Dev nD) (i : grid0.Coords) (arg1 : Memref sig .tc .vmem S384x48x48 .f32) (harg1 : arg1.IsWhole) (arg2 : Memref sig .tc .vmem S256x8x48 .f32) (harg2 : arg2.IsWhole) (arg3 : Memref sig .tc .vmem S256x8x48 .f32) (harg3 : arg3.IsWhole) (arg4 : Memref sig .tc .vmem S256x16x48 .f32) (harg4 : arg4.IsWhole) (arg5 : Memref sig .tc .vmem S256x16x48 .f32) (harg5 : arg5.IsWhole) (arg6 : Memref sig .tc .smem S1x1x1 .f32) (harg6 : arg6.IsWhole) (arg7 : Memref sig .tc .smem S1x1x1 .f32) (harg7 : arg7.IsWhole) (arg8 : Memref sig .tc .vmem S2304x512 .bf16) (harg8 : arg8.IsWhole) (arg9 : Memref sig .tc .vmem S2304x512 .bf16) (harg9 : arg9.IsWhole) (hc0 : ¬fills i) (hc1 : sums i)
    (x0 : Vec F S384x48x48 .f32) (x1 : Vec F S256x8x48 .f32) (x2 : Vec F S256x8x48 .f32) (x3 : Vec F S256x16x48 .f32) (x4 : Vec F S256x16x48 .f32) (d8 d9 : Vec F S2304x512 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare d8 ∗ owns (c : Thread nD τ) arg9 fullShare d9
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (fun _ => bandAcc x0 x1 x2 d8 d9) ∗ owns (c : Thread nD τ) arg7 fullShare (fun _ => bandCnt x0)
              ∗ owns (c : Thread nD τ) arg8 fullShare d8 ∗ owns (c : Thread nD τ) arg9 fullShare d9) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9) K := by
    intro E K
    simp only [cc0__fused_kernel_eq_skeleton]; unfold cc0__fused_kernel_skel
    simp only [k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f8, %hf8, HS0⟩, ⟨%f9, %hf9, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hf8; obtain rfl := harg9.eq_unread hf9
    have e1 : View.readAt (Elt F) arg1.view (Rect.unit (s := S384x48x48) ![0, 0, 0] S384x48x48.size inb_S384x48x48_S384x48x48_0_0_0).toLoadRect (harg1.unread x0) = x0 := (View.readAt_full _ _ _).trans (harg1.read_unread _)
    have e2 : View.readAt (Elt F) arg2.view (Rect.unit (s := S256x8x48) ![0, 0, 0] S256x8x48.size inb_S256x8x48_S256x8x48_0_0_0).toLoadRect (harg2.unread x1) = x1 := (View.readAt_full _ _ _).trans (harg2.read_unread _)
    have e3 : View.readAt (Elt F) arg3.view (Rect.unit (s := S256x8x48) ![0, 0, 0] S256x8x48.size inb_S256x8x48_S256x8x48_0_0_0).toLoadRect (harg3.unread x2) = x2 := (View.readAt_full _ _ _).trans (harg3.read_unread _)
    have e8 : View.readAt (Elt F) arg8.view (Rect.unit (s := S2304x512) ![0, 0] S2304x512.size inb_S2304x512_S2304x512_0_0).toLoadRect (harg8.unread d8) = d8 := (View.readAt_full _ _ _).trans (harg8.read_unread _)
    have e9 : View.readAt (Elt F) arg9.view (Rect.unit (s := S2304x512) ![0, 0] S2304x512.size inb_S2304x512_S2304x512_0_0).toLoadRect (harg9.unread d9) = d9 := (View.readAt_full _ _ _).trans (harg9.read_unread _)
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro; sl_unfold_run_names
      rw [View.read_writes_full]
      simp only [bandAcc]
      rfl
    isplitl [H6]
    · iexists _; isplitr; swap; · iexact H6
      ipureintro; sl_unfold_run_names
      rw [View.read_writes_full]
      simp only [bandCnt]
      rfl
    isplitl [HS0]
    · iexists _; isplitr; · ipureintro; exact harg8.read_unread _
      iexact HS0
    iexists _; isplitr; · ipureintro; exact harg9.read_unread _
    iexact HS1

end Cert.KernelIdeal.Body

end
-- ==== Proof.Launch.lean ====
module

public import proofs.«01_k».proof.Proof.Body
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The filling point of a scratch row. -/
def pointOf (y : S2304x512.Idx) : Fin cfg0.N := ⟨(y 0).val / 768, by
  have h : (y 0).val < 2304 := (y 0).isLt
  have hN : cfg0.N = 9 := N_0
  omega⟩

/-- A scratch place's coordinates within its rectangle: the row in its band, the column in its half. -/
def placeIn (y : S2304x512.Idx) : S768x256.Idx
  | ⟨0, _⟩ => ⟨(y 0).val % 768, Nat.mod_lt _ (by decide)⟩
  | ⟨1, _⟩ => ⟨(y 1).val % 256, Nat.mod_lt _ (by decide)⟩

/-- A matrix put together from a left and a right block per filling point. -/
def whole (a b : Fin cfg0.N → FVec F S768x256 .bf16) : Vec F S2304x512 .bf16 := fun y =>
  if (y 1).val < 256 then a (pointOf y) (placeIn y) else b (pointOf y) (placeIn y)

/-- What the first scratch matrix holds once every filling point has run, -/
def hiAll (c : Dev nD) : Vec F S2304x512 .bf16 := whole (fun t => hiL (iblk m c 3 t)) (fun t => hiR (iblk m c 4 t))
/-- and the second. -/
def loAll (c : Dev nD) : Vec F S2304x512 .bf16 := whole (fun t => loL (iblk m c 3 t)) (fun t => loR (iblk m c 4 t))

/-- `d` agrees with `w` on the rows filled before point `n`. -/
def Upto (n : ℕ) (w d : Vec F S2304x512 .bf16) : Prop := ∀ y : S2304x512.Idx, (y 0).val < 768 * n → d y = w y

theorem off1_eq : ∀ t : Fin cfg0.N, t.val < 3 → (k0_off1 (grid0.coords t) 0 = 768 * t.val ∧ k0_off1 (grid0.coords t) 1 = 0) :=
  (by decide +kernel : ∀ t : Fin grid0.N, t.val < 3 → (k0_off1 (grid0.coords t) 0 = 768 * t.val ∧ k0_off1 (grid0.coords t) 1 = 0))
theorem off2_eq : ∀ t : Fin cfg0.N, t.val < 3 → (k0_off2 (grid0.coords t) 0 = 768 * t.val ∧ k0_off2 (grid0.coords t) 1 = 256) :=
  (by decide +kernel : ∀ t : Fin grid0.N, t.val < 3 → (k0_off2 (grid0.coords t) 0 = 768 * t.val ∧ k0_off2 (grid0.coords t) 1 = 256))

/-- Filling a point's rows extends the agreement by them. -/
theorem Upto.fill (a b : Fin cfg0.N → FVec F S768x256 .bf16) (t : Fin cfg0.N) (h3 : t.val < 3) (h : fills (grid0.coords t))
    (d d' : Vec F S2304x512 .bf16) (hd : Upto t.val (whole a b) d) (hf : Filled (grid0.coords t) h (a t) (b t) d d') :
    Upto (t.val + 1) (whole a b) d' := by
  obtain ⟨hl, hr, ho⟩ := hf
  obtain ⟨o10, o11⟩ := off1_eq t h3
  obtain ⟨o20, o21⟩ := off2_eq t h3
  intro y hy
  have hy1 : (y 1).val < 512 := (y 1).isLt
  by_cases hlow : (y 0).val < 768 * t.val
  · rw [← hd y hlow]
    refine ho y ?_ ?_ <;> intro hm
    · obtain ⟨x, hx⟩ := LoadRect.exists_idx_of_mem _ hm
      have h0 := congrArg (fun z : S2304x512.Idx => (z 0).val) hx
      have : (y 0).val = k0_off1 (grid0.coords t) 0 + 1 * (x 0).val := h0.symm
      omega
    · obtain ⟨x, hx⟩ := LoadRect.exists_idx_of_mem _ hm
      have h0 := congrArg (fun z : S2304x512.Idx => (z 0).val) hx
      have : (y 0).val = k0_off2 (grid0.coords t) 0 + 1 * (x 0).val := h0.symm
      omega
  · have hp : pointOf y = t := Fin.ext (show (y 0).val / 768 = t.val by omega)
    unfold whole
    rw [hp]
    by_cases hc : (y 1).val < 256
    · rw [if_pos hc, ← hl (placeIn y)]
      congr 1
      funext ax
      apply Fin.ext
      match ax with
      | ⟨0, _⟩ => show (y 0).val = k0_off1 (grid0.coords t) 0 + 1 * ((y 0).val % 768); omega
      | ⟨1, _⟩ => show (y 1).val = k0_off1 (grid0.coords t) 1 + 1 * ((y 1).val % 256); omega
    · rw [if_neg hc, ← hr (placeIn y)]
      congr 1
      funext ax
      apply Fin.ext
      match ax with
      | ⟨0, _⟩ => show (y 0).val = k0_off2 (grid0.coords t) 0 + 1 * ((y 0).val % 768); omega
      | ⟨1, _⟩ => show (y 1).val = k0_off2 (grid0.coords t) 1 + 1 * ((y 1).val % 256); omega

/-- Agreement on three bands is equality. -/
theorem Upto.eq {n : ℕ} (hn : 3 ≤ n) {w d : Vec F S2304x512 .bf16} (h : Upto n w d) : d = w :=
  funext fun y => h y (by have : (y 0).val < 2304 := (y 0).isLt; omega)

/-- The scratch matrices as memrefs. -/
abbrev scr0 : Memref sig .tc .vmem S2304x512 .bf16 := Memref.whole cc0_scratch0
abbrev scr1 : Memref sig .tc .vmem S2304x512 .bf16 := Memref.whole cc0_scratch1

/-- What is kept between points: the two scratch matrices, each right on the rows filled so far, and the generator's register. -/
def inv (c : Dev nD) (n : ℕ) : sProp 𝕄 :=
  iprop(iprop((∃ d, ⌜Upto n (hiAll m c) d⌝ ∗ owns (c : Thread nD τ) scr0 fullShare d)
      ∗ (∃ d, ⌜Upto n (loAll m c) d⌝ ∗ owns (c : Thread nD τ) scr1 fullShare d)) ∗ (∃ r, prngReg c r))

/-- The pipeline's proof data: inputs keep their blocks, the two outputs take a band's sums over the full scratch matrices. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => fun _ => bandAcc (iblk m c 0 t) (iblk m c 1 t) (iblk m c 2 t) (hiAll m c) (loAll m c)
    | ⟨6, _⟩ => fun _ => bandCnt (iblk m c 0 t)
  Φ k := inv m c k.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t
    = fun _ => bandAcc (iblk m c 0 t) (iblk m c 1 t) (iblk m c 2 t) (hiAll m c) (loAll m c) := by dsimp only [dats]
theorem after_6 (c : Dev nD) (t : Fin cfg0.N) : (dats m 0 c).after 6 t = fun _ => bandCnt (iblk m c 0 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- The inputs are used at every point; the outputs at the summing points, which are the ones they are written back at. -/
theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
theorem live_4 : ∀ t : Fin cfg0.N, cfg0.idle 4 (grid0.coords t) = false := fun _ => rfl
theorem idle_out : ∀ t : Fin cfg0.N, idle0 5 (grid0.coords t) = decide (t.val < 3) ∧ idle0 6 (grid0.coords t) = decide (t.val < 3) :=
  (by decide +kernel : ∀ t : Fin grid0.N, idle0 5 (grid0.coords t) = decide (t.val < 3) ∧ idle0 6 (grid0.coords t) = decide (t.val < 3))
theorem flush_5 : ∀ t : Fin cfg0.N, (cfg0.win 5).flush t = decide (3 ≤ t.val) :=
  (by decide +kernel : ∀ t : Fin grid0.N, (win0_5).flush t = decide (3 ≤ t.val))
theorem flush_6 : ∀ t : Fin cfg0.N, (cfg0.win 6).flush t = decide (3 ≤ t.val) :=
  (by decide +kernel : ∀ t : Fin grid0.N, (win0_6).flush t = decide (3 ≤ t.val))

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 1600000 in
/-- The body at any point: a filling point extends the scratch matrices' right rows and hands the outputs' buffers back, a summing
    point finds the matrices full and leaves the band's sums. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = inv m c (t.val + 1) from rfl,
    show (dats m 0 c).owesAt () t.succ = (dats m 0 c).owesAt () t.castSucc from rfl]
  rw [show (dats m 0 c).Φ t.castSucc = inv m c t.val from rfl]
  rw [show (dats m 0 c).leavesExact 0 t = owns (c : Thread nD τ) (st0_0 t) fullShare ((dats m 0 c).after 0 t) from by
    unfold Dat.leavesExact; rw [live_0 t], after_0]
  rw [show (dats m 0 c).leavesExact 1 t = owns (c : Thread nD τ) (st0_1 t) fullShare ((dats m 0 c).after 1 t) from by
    unfold Dat.leavesExact; rw [live_1 t], after_1]
  rw [show (dats m 0 c).leavesExact 2 t = owns (c : Thread nD τ) (st0_2 t) fullShare ((dats m 0 c).after 2 t) from by
    unfold Dat.leavesExact; rw [live_2 t], after_2]
  rw [show (dats m 0 c).leavesExact 3 t = owns (c : Thread nD τ) (st0_3 t) fullShare ((dats m 0 c).after 3 t) from by
    unfold Dat.leavesExact; rw [live_3 t], after_3]
  rw [show (dats m 0 c).leavesExact 4 t = owns (c : Thread nD τ) (st0_4 t) fullShare ((dats m 0 c).after 4 t) from by
    unfold Dat.leavesExact; rw [live_4 t], after_4]
  by_cases h0 : t.val < 3
  · have i5 : cfg0.idle 5 (cfg0.grid.coords t) = true := (idle_out t).1.trans (decide_eq_true h0)
    have i6 : cfg0.idle 6 (cfg0.grid.coords t) = true := (idle_out t).2.trans (decide_eq_true h0)
    have f5 : (cfg0.win 5).flush t = false := (flush_5 t).trans (decide_eq_false (by omega))
    have f6 : (cfg0.win 6).flush t = false := (flush_6 t).trans (decide_eq_false (by omega))
    rw [Dat.leavesExact_idle (dats m 0 c) 5 t i5 f5, Dat.leavesExact_idle (dats m 0 c) 6 t i6 f6]
    have hc0 : fills (grid0.coords t) := (fills_iff t).mpr h0
    have hc1 : ¬ sums (grid0.coords t) := fun h => by have := (sums_iff t).mp h; omega
    unfold inv
    iintro ⟨⟨⟨⟨%d8, %g8, HS0⟩, ⟨%d9, %g9, HS1⟩⟩, Hg⟩, Ho, ⟨%d0, H0⟩, ⟨%d1, H1⟩, ⟨%d2, H2⟩, ⟨%d3, H3⟩, ⟨%d4, H4⟩, ⟨%d5, H5⟩, ⟨%d6, H6⟩⟩
    iapply ((run_fills c (grid0.coords t) _ _ _ _ _ _ _ _ _ _ _ _ _ _ _ _ _ _ hc0 hc1 (iblk m c 0 t) (iblk m c 1 t) (iblk m c 2 t) (iblk m c 3 t) (iblk m c 4 t) _ _ d8 d9) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, ⟨%e8, %k8, HS0⟩, ⟨%e9, %k9, HS1⟩⟩
    isplitl [HS0 HS1 Hg]
    · isplitl [HS0 HS1]
      · isplitl [HS0]
        · iexists e8; isplitr; swap; · iexact HS0
          ipureintro; exact Upto.fill (fun t => hiL (iblk m c 3 t)) (fun t => hiR (iblk m c 4 t)) t h0 hc0 d8 e8 g8 k8
        iexists e9; isplitr; swap; · iexact HS1
        ipureintro; exact Upto.fill (fun t => loL (iblk m c 3 t)) (fun t => loR (iblk m c 4 t)) t h0 hc0 d9 e9 g9 k9
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists d5; iexact H5
    iexists d6; iexact H6
  · have h1 : 3 ≤ t.val := by omega
    have i5 : cfg0.idle 5 (cfg0.grid.coords t) = false := (idle_out t).1.trans (decide_eq_false h0)
    have i6 : cfg0.idle 6 (cfg0.grid.coords t) = false := (idle_out t).2.trans (decide_eq_false h0)
    rw [show (dats m 0 c).leavesExact 5 t = owns (c : Thread nD τ) (st0_5 t) fullShare ((dats m 0 c).after 5 t) from by
      unfold Dat.leavesExact; rw [i5], after_5]
    rw [show (dats m 0 c).leavesExact 6 t = owns (c : Thread nD τ) (st0_6 t) fullShare ((dats m 0 c).after 6 t) from by
      unfold Dat.leavesExact; rw [i6], after_6]
    have hc0 : ¬ fills (grid0.coords t) := fun h => h0 ((fills_iff t).mp h)
    have hc1 : sums (grid0.coords t) := (sums_iff t).mpr h1
    unfold inv
    iintro ⟨⟨⟨⟨%d8, %g8, HS0⟩, ⟨%d9, %g9, HS1⟩⟩, Hg⟩, Ho, ⟨%d0, H0⟩, ⟨%d1, H1⟩, ⟨%d2, H2⟩, ⟨%d3, H3⟩, ⟨%d4, H4⟩, ⟨%d5, H5⟩, ⟨%d6, H6⟩⟩
    obtain rfl := Upto.eq h1 g8
    obtain rfl := Upto.eq h1 g9
    iapply ((run_sums c (grid0.coords t) _ _ _ _ _ _ _ _ _ _ _ _ _ _ _ _ _ _ hc0 hc1 (iblk m c 0 t) (iblk m c 1 t) (iblk m c 2 t) (iblk m c 3 t) (iblk m c 4 t) (hiAll m c) (loAll m c)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexists _; isplitr; swap; · iexact HS0
          ipureintro; exact fun y _ => rfl
        iexists _; isplitr; swap; · iexact HS1
        ipureintro; exact fun y _ => rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body called there. -/
theorem defs₀_row (t : Fin cfg0.N) :
    defs₀ (F := F) .tc cfg0.body (cfg0.bodyArgs t (cfg0.slots t)) = bodyAt0 t := by
  unfold defs₀; rw [Defs.onTc_tc]

/-- The library's obligation on the body, at every point. -/
theorem body_obligation (c : Dev nD) : BodyObligation (dats (F := F) m 0 c) (defs₀ (F := F)) Variants.none () Set.univ := fun t => by
  rw [bigSep_W0, bigSep_W0, defs₀_row]
  exact sound_body m c t

/-- What the region hands over is the kept assertion before any point, -/
theorem inv_in (c : Dev nD) : (Pipeline.ΦA spec0 c : sProp 𝕄) ⊢ inv m c 0 := by
  unfold Pipeline.ΦA inv; rw [scopedRest0_eq]
  simp only [owns_whole]
  iintro ⟨⟨⟨%f, H0⟩, ⟨%g, H1⟩⟩, Hg⟩
  isplitl [H0 H1]
  · isplitl [H0]
    · iexists f; isplitr; swap; · iexact H0
      ipureintro; exact fun y h => absurd h (by omega)
    iexists g; isplitr; swap; · iexact H1
    ipureintro; exact fun y h => absurd h (by omega)
  iexact Hg

/-- and the kept assertion gives it back. -/
theorem inv_out (c : Dev nD) (n : ℕ) : inv m c n ⊢ (Pipeline.ΦA spec0 c : sProp 𝕄) := by
  unfold Pipeline.ΦA inv; rw [scopedRest0_eq]
  simp only [owns_whole]
  iintro ⟨⟨⟨%f, -, H0⟩, ⟨%g, -, H1⟩⟩, Hg⟩
  isplitl [H0 H1]
  · isplitl [H0]
    · iexists f; iexact H0
    iexists g; iexact H1
  iexact Hg

set_option backward.isDefEq.respectTransparency.types false in
set_option maxHeartbeats 800000 in
/-- The launch: every array ends as the proof data says, every other buffer as the host lines leave it, every semaphore at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := fun c => inv_in m c) (hout := fun c => inv_out m c _)

/-- The argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Body

end
-- ==== Proof.Maths.lean ====
module

public import Idealize.ShloMosaic.Lib.Pointwise

@[expose] public section

noncomputable section

namespace Cert.Maths

open Idealize.ShloMosaic

/-- The lower bound of a norm, -/
abbrev eps : EReal := Ideal.ofBits .f32 0x322BCC77#32
/-- the bound below which a pair is near -/
abbrev half : EReal := Ideal.ofBits .f32 0x3F000000#32
/-- and the number of images. -/
abbrev four : EReal := Ideal.ofBits .f32 0x40800000#32

/-- The lower bound of a norm is a positive real. -/
theorem eps_pos : ∃ e : ℝ, 0 < e ∧ eps = (e : EReal) := by
  refine ⟨_, ?_, show eps = _ from by simp [eps, Ideal.ofBits, Ideal.ieee]; rfl⟩
  positivity

/-- The number of images is the real four. -/
theorem four_eq : four = ((4 : ℝ) : EReal) := by
  simp [four, Ideal.ofBits, Ideal.ieee]; norm_num [zpow_neg, zpow_ofNat]
  rw [← EReal.coe_mul]; norm_num

/-- A finite sum of reals, taken among the extended reals. -/
theorem coe_sum {ι : Type*} (s : Finset ι) (f : ι → ℝ) : ((∑ i ∈ s, f i : ℝ) : EReal) = ∑ i ∈ s, (f i : EReal) := by
  induction s using Finset.cons_induction with
  | empty => rfl
  | cons a s h ih => rw [Finset.sum_cons, Finset.sum_cons, EReal.coe_add, ih]

/-- The Euclidean norm of a column, bounded below. -/
def nrm (x : Fin 64 → EReal) : EReal := max (Ideal.sqrt (∑ c, x c * x c)) eps

/-- A column scaled by the reciprocal of its norm. -/
def unitCol (x : Fin 64 → EReal) (c : Fin 64) : EReal := x c * Ideal.div 1 (nrm x)

/-- The same as real numbers. -/
def unitR (x : Fin 64 → EReal) (c : Fin 64) : ℝ := (unitCol x c).toReal

/-- The norm of a column of reals is a positive real. -/
theorem nrm_real (a : Fin 64 → ℝ) : ∃ n : ℝ, 0 < n ∧ nrm (fun c => (a c : EReal)) = (n : EReal) := by
  obtain ⟨e, he, heq⟩ := eps_pos
  refine ⟨max (Real.sqrt (∑ c, a c * a c)) e, lt_max_of_lt_right he, ?_⟩
  have h0 : ¬ (∑ c, a c * a c) < 0 := not_lt.2 (Finset.sum_nonneg fun c _ => mul_self_nonneg _)
  have hs : (∑ c, (a c : EReal) * (a c : EReal)) = ((∑ c, a c * a c : ℝ) : EReal) := by
    rw [coe_sum]; exact Finset.sum_congr rfl fun c _ => (EReal.coe_mul _ _).symm
  unfold nrm
  rw [hs, heq, Ideal.sqrt_coe, if_neg h0]
  exact (EReal.coe_strictMono.monotone.map_max).symm

/-- A product of an extended real with itself is not negative. -/
theorem mul_self_nonneg' (x : EReal) : 0 ≤ x * x := by
  induction x with
  | bot => simp
  | top => simp
  | coe r => exact_mod_cast mul_self_nonneg r

/-- The norm of a column with an infinite entry is infinite. -/
theorem nrm_top (x : Fin 64 → EReal) (c : Fin 64) (h : x c = ⊤ ∨ x c = ⊥) : nrm x = ⊤ := by
  have hc : x c * x c = ⊤ := by rcases h with h | h <;> rw [h] <;> simp
  have hs : (∑ c, x c * x c) = ⊤ :=
    top_le_iff.1 (hc ▸ Finset.single_le_sum (f := fun c => x c * x c) (fun i _ => mul_self_nonneg' _) (Finset.mem_univ c))
  unfold nrm
  rw [hs, Ideal.sqrt_top]
  exact max_eq_left le_top

/-- Every norm is positive. -/
theorem nrm_pos (x : Fin 64 → EReal) : 0 < nrm x := by
  obtain ⟨e, he, heq⟩ := eps_pos
  exact lt_of_lt_of_le (show (0 : EReal) < eps by rw [heq]; exact_mod_cast he) (le_max_right _ _)

/-- Dividing by infinity gives zero. -/
theorem div_top (x : EReal) : Ideal.div x ⊤ = 0 := by
  unfold Ideal.div
  rw [if_neg (by simp)]
  simp

/-- A column is either real or has an infinite norm. -/
theorem real_or_top (x : Fin 64 → EReal) : (∃ a : Fin 64 → ℝ, x = fun c => (a c : EReal)) ∨ nrm x = ⊤ := by
  by_cases h : ∃ c, x c = ⊤ ∨ x c = ⊥
  · obtain ⟨c, hc⟩ := h
    exact Or.inr (nrm_top x c hc)
  · refine Or.inl ⟨fun c => (x c).toReal, funext fun c => (EReal.coe_toReal ?_ ?_).symm⟩
    · exact fun e => h ⟨c, Or.inl e⟩
    · exact fun e => h ⟨c, Or.inr e⟩

/-- A scaled column with an infinite norm is zero. -/
theorem unitCol_of_top (x : Fin 64 → EReal) (h : nrm x = ⊤) (c : Fin 64) : unitCol x c = 0 := by
  unfold unitCol
  rw [h, div_top, mul_zero]

/-- A scaled column of reals. -/
theorem unitCol_of_real (a : Fin 64 → ℝ) (n : ℝ) (hn : 0 < n) (h : nrm (fun c => (a c : EReal)) = (n : EReal)) (c : Fin 64) :
    unitCol (fun c => (a c : EReal)) c = ((a c * (1 / n) : ℝ) : EReal) := by
  unfold unitCol
  rw [h, Ideal.div_coe hn.ne', one_mul, EReal.coe_mul]

/-- A scaled column is always real. -/
theorem unitCol_eq (x : Fin 64 → EReal) (c : Fin 64) : unitCol x c = (unitR x c : EReal) := by
  unfold unitR
  rcases real_or_top x with ⟨a, rfl⟩ | h
  · obtain ⟨n, hn, h⟩ := nrm_real a
    rw [unitCol_of_real a n hn h, EReal.toReal_coe]
  · rw [unitCol_of_top x h, EReal.toReal_zero, EReal.coe_zero]

/-- The inner product of two columns over the product of their norms is the inner product of the scaled columns. -/
theorem cosine (x y : Fin 64 → EReal) :
    Ideal.div (∑ c, x c * y c) (nrm x * nrm y) = ((∑ c, unitR x c * unitR y c : ℝ) : EReal) := by
  have hz : ∀ z : Fin 64 → EReal, nrm z = ⊤ → ∀ c, unitR z c = 0 := fun z hz c => by
    unfold unitR; rw [unitCol_of_top z hz, EReal.toReal_zero]
  rcases real_or_top x with ⟨a, rfl⟩ | hx
  · rcases real_or_top y with ⟨b, rfl⟩ | hy
    · obtain ⟨n, hn, h⟩ := nrm_real a
      obtain ⟨k, hk, h'⟩ := nrm_real b
      have hs : (∑ c, (a c : EReal) * (b c : EReal)) = ((∑ c, a c * b c : ℝ) : EReal) := by
        rw [coe_sum]; exact Finset.sum_congr rfl fun c _ => (EReal.coe_mul _ _).symm
      have ha : ∀ c, unitR (fun c => (a c : EReal)) c = a c * (1 / n) := fun c => by
        unfold unitR; rw [unitCol_of_real a n hn h, EReal.toReal_coe]
      have hb : ∀ c, unitR (fun c => (b c : EReal)) c = b c * (1 / k) := fun c => by
        unfold unitR; rw [unitCol_of_real b k hk h', EReal.toReal_coe]
      rw [hs, h, h', ← EReal.coe_mul, Ideal.div_coe (mul_pos hn hk).ne', ← EReal.coe_mul]
      congr 1
      simp only [ha, hb]
      rw [Finset.sum_mul]
      refine Finset.sum_congr rfl fun c _ => ?_
      field_simp
    · have hp : nrm (fun c => (a c : EReal)) * nrm y = ⊤ := by rw [hy]; exact EReal.mul_top_of_pos (nrm_pos _)
      rw [hp, div_top]
      simp [hz y hy]
  · have hp : nrm x * nrm y = ⊤ := by rw [hx]; exact EReal.top_mul_of_pos (nrm_pos _)
    rw [hp, div_top]
    simp [hz x hx]

/-- Whether a distance is near, as a real number. -/
def ind (x : EReal) : ℝ := if x < half then 1 else 0

theorem ind_nonneg (x : EReal) : 0 ≤ ind x := by
  unfold ind; split <;> norm_num

/-- The bit of a comparison, widened and read as a signed number, -/
theorem sitofp_bit (x : EReal) :
    FloatOps.sitofp (F := Ideal) .f32 (BitVec.setWidth 32 (BitVec.ofBool (decide (x < half)))) = (ind x : EReal) := by
  unfold ind
  by_cases h : x < half
  · rw [if_pos h, decide_eq_true h]; simp [FloatOps.sitofp]
  · rw [if_neg h, decide_eq_false h]; simp [FloatOps.sitofp]

/-- and the same bit read as an unsigned number. -/
theorem uitofp_bit (x : EReal) :
    FloatOps.uitofp (F := Ideal) .f32 (BitVec.ofBool (decide (x < half))) = (ind x : EReal) := by
  unfold ind
  by_cases h : x < half
  · rw [if_pos h, decide_eq_true h]; simp [FloatOps.uitofp]
  · rw [if_neg h, decide_eq_false h]; simp [FloatOps.uitofp]

/-- Zero over zero is negative infinity. -/
theorem div_zero_zero : Ideal.div 0 0 = ⊥ := by
  unfold Ideal.div; simp

/-- The two ways to average: the mean over the images of each image's sum over the count, and the total over the count times
    the number of images. Where no pair is near both are zero over zero. -/
theorem mean_eq {ι κ : Type} [Fintype ι] [Fintype κ] (M : ι → κ → ℝ) (hM : ∀ n m, 0 ≤ M n m) (C : Fin 4 → ι → κ → ℝ) :
    Ideal.div (∑ b, Ideal.div ((∑ n, ∑ m, -(C b n m) * M n m : ℝ) : EReal) ((∑ n, ∑ m, M n m : ℝ) : EReal)) four
      = Ideal.div ((-(∑ b, ∑ n, ∑ m, C b n m * M n m) : ℝ) : EReal) (((∑ n, ∑ m, M n m : ℝ) : EReal) * four) := by
  rw [four_eq]
  by_cases hP : (∑ n, ∑ m, M n m) = 0
  · have h0 : ∀ n m, M n m = 0 := fun n m => by
      have h1 := (Finset.sum_eq_zero_iff_of_nonneg (fun n _ => Finset.sum_nonneg fun m _ => hM n m)).1 hP n (Finset.mem_univ _)
      exact (Finset.sum_eq_zero_iff_of_nonneg (fun m _ => hM n m)).1 h1 m (Finset.mem_univ _)
    simp only [h0, mul_zero, Finset.sum_const_zero, neg_zero, EReal.coe_zero, div_zero_zero, zero_mul]
    rw [Fin.sum_univ_four, Ideal.div_coe (by norm_num)]
    simp only [EReal.bot_add]
    exact EReal.bot_mul_coe_of_pos (by norm_num)
  · have h4 : (∑ n, ∑ m, M n m) * 4 ≠ 0 := mul_ne_zero hP (by norm_num)
    simp only [Ideal.div_coe hP, ← EReal.coe_mul, Ideal.div_coe h4, Ideal.div_coe (show (4 : ℝ) ≠ 0 by norm_num)]
    rw [← coe_sum, ← EReal.coe_mul]
    congr 1
    rw [← Finset.sum_mul]
    simp only [neg_mul, Finset.sum_neg_distrib]
    field_simp

/-- Image `b`'s channels at pixel `n`, from the rank-four array. -/
def pix (A : (⟨4, ![4, 64, 48, 48]⟩ : Shape).Idx → EReal) (b : Fin 4) (n : Fin 2304) (c : Fin 64) : EReal :=
  A (ix4 b c ⟨n.val / 48, by omega⟩ ⟨n.val % 48, by omega⟩)

/-- Whether pixels `n` and `m` are near, from the rank-four array of distances. -/
def nearR (D : (⟨4, ![48, 48, 48, 48]⟩ : Shape).Idx → EReal) (n m : Fin 2304) : ℝ :=
  ind (D (ix4 ⟨n.val / 48, by omega⟩ ⟨n.val % 48, by omega⟩ ⟨m.val / 48, by omega⟩ ⟨m.val % 48, by omega⟩))

theorem nearR_nonneg (D) (n m : Fin 2304) : 0 ≤ nearR D n m := ind_nonneg _

/-- The cosine between pixel `n` of one image and pixel `m` of the other. -/
def cosR (A B : (⟨4, ![4, 64, 48, 48]⟩ : Shape).Idx → EReal) (b : Fin 4) (n m : Fin 2304) : ℝ :=
  ∑ c, unitR (pix A b n) c * unitR (pix B b m) c

end Cert.Maths

end
-- ==== Proof.Columns.lean ====
module

public import proofs.«01_k».proof.Proof.Body
public import proofs.«01_k».proof.Proof.Maths

@[expose] public section

set_option maxRecDepth 16384

noncomputable section

namespace Cert.KernelIdeal.Body

open Cert.KernelIdeal Cert.KernelIdeal.Gen Cert.Maths
open Idealize.ShloMosaic

/-- Row `64 b + c` of a block's 256 rows: channel `c` of image `b`. -/
def chan (b : Fin 4) (c : Fin 64) : Fin 256 := ⟨64 * b.val + c.val, by omega⟩

/-- The left half's column `k`, -/
def left (k : Fin 256) : Fin 512 := ⟨k.val, by omega⟩
/-- and the right half's. -/
def right (k : Fin 256) : Fin 512 := ⟨256 + k.val, by omega⟩

/-- Image `b`'s channels at pixel `p` of a block of sixteen rows, -/
def wide (x : Vec Ideal S256x16x48 .f32) (b : Fin 4) (p : Fin 768) (c : Fin 64) : EReal :=
  x (ix3 (chan b c) ⟨p.val / 48, by omega⟩ ⟨p.val % 48, by omega⟩)
/-- and of a block of eight rows. -/
def narrow (x : Vec Ideal S256x8x48 .f32) (b : Fin 4) (p : Fin 384) (c : Fin 64) : EReal :=
  x (ix3 (chan b c) ⟨p.val / 48, by omega⟩ ⟨p.val % 48, by omega⟩)

/-- The first image's scaled channels, of a wide block. -/
theorem pay11_at (x : Vec Ideal S256x16x48 .f32) (k c : Fin 64) (p : Fin 768) (hk : k.val = c.val) :
    k0_pay11 x (ix2 k p) = unitCol (wide x 0 p) c := by
  obtain rfl := Fin.ext hk
  pointwise [k0_pay11, k0_pay9, k0_pay10]
  simp only [unitCol, nrm, wide, chan]
  simp

/-- The second image's scaled channels, of a wide block. -/
theorem pay12_at (x : Vec Ideal S256x16x48 .f32) (k c : Fin 64) (p : Fin 768) (hk : k.val = c.val) :
    k0_pay12 x (ix2 k p) = unitCol (wide x 1 p) c := by
  obtain rfl := Fin.ext hk
  pointwise [k0_pay12, k0_pay9, k0_pay10]
  simp only [unitCol, nrm, wide, chan]
  simp

/-- The third image's scaled channels, of a wide block. -/
theorem pay13_at (x : Vec Ideal S256x16x48 .f32) (k c : Fin 64) (p : Fin 768) (hk : k.val = c.val) :
    k0_pay13 x (ix2 k p) = unitCol (wide x 2 p) c := by
  obtain rfl := Fin.ext hk
  pointwise [k0_pay13, k0_pay9, k0_pay10]
  simp only [unitCol, nrm, wide, chan]
  simp

/-- The first image's scaled channels, of a second wide block. -/
theorem pay18_at (x : Vec Ideal S256x16x48 .f32) (k c : Fin 64) (p : Fin 768) (hk : k.val = c.val) :
    k0_pay18 x (ix2 k p) = unitCol (wide x 0 p) c := by
  obtain rfl := Fin.ext hk
  pointwise [k0_pay18, k0_pay16, k0_pay17]
  simp only [unitCol, nrm, wide, chan]
  simp

/-- The second image's scaled channels, of a second wide block. -/
theorem pay19_at (x : Vec Ideal S256x16x48 .f32) (k c : Fin 64) (p : Fin 768) (hk : k.val = c.val) :
    k0_pay19 x (ix2 k p) = unitCol (wide x 1 p) c := by
  obtain rfl := Fin.ext hk
  pointwise [k0_pay19, k0_pay16, k0_pay17]
  simp only [unitCol, nrm, wide, chan]
  simp

/-- The first image's scaled channels, of a narrow block. -/
theorem pay23_at (x : Vec Ideal S256x8x48 .f32) (k c : Fin 64) (p : Fin 384) (hk : k.val = c.val) :
    k0_pay23 x (ix2 k p) = unitCol (narrow x 0 p) c := by
  obtain rfl := Fin.ext hk
  pointwise [k0_pay23, k0_pay21, k0_pay22]
  simp only [unitCol, nrm, narrow, chan]
  simp

/-- The second image's scaled channels, of a narrow block. -/
theorem pay24_at (x : Vec Ideal S256x8x48 .f32) (k c : Fin 64) (p : Fin 384) (hk : k.val = c.val) :
    k0_pay24 x (ix2 k p) = unitCol (narrow x 1 p) c := by
  obtain rfl := Fin.ext hk
  pointwise [k0_pay24, k0_pay21, k0_pay22]
  simp only [unitCol, nrm, narrow, chan]
  simp

/-- The third image's scaled channels, of a narrow block. -/
theorem pay25_at (x : Vec Ideal S256x8x48 .f32) (k c : Fin 64) (p : Fin 384) (hk : k.val = c.val) :
    k0_pay25 x (ix2 k p) = unitCol (narrow x 2 p) c := by
  obtain rfl := Fin.ext hk
  pointwise [k0_pay25, k0_pay21, k0_pay22]
  simp only [unitCol, nrm, narrow, chan]
  simp

/-- The first image's scaled channels, of a second narrow block. -/
theorem pay30_at (x : Vec Ideal S256x8x48 .f32) (k c : Fin 64) (p : Fin 384) (hk : k.val = c.val) :
    k0_pay30 x (ix2 k p) = unitCol (narrow x 0 p) c := by
  obtain rfl := Fin.ext hk
  pointwise [k0_pay30, k0_pay28, k0_pay29]
  simp only [unitCol, nrm, narrow, chan]
  simp

/-- The second image's scaled channels, of a second narrow block. -/
theorem pay31_at (x : Vec Ideal S256x8x48 .f32) (k c : Fin 64) (p : Fin 384) (hk : k.val = c.val) :
    k0_pay31 x (ix2 k p) = unitCol (narrow x 1 p) c := by
  obtain rfl := Fin.ext hk
  pointwise [k0_pay31, k0_pay28, k0_pay29]
  simp only [unitCol, nrm, narrow, chan]
  simp

/-- The left half stored for a wide block: row `p`, column `64 b + c` is image `b`'s scaled channel `c` at pixel `p`. -/
theorem colsL_at (x : Vec Ideal S256x16x48 .f32) (b : Fin 4) (c : Fin 64) (p : Fin 768) :
    colsL x (ix2 p (chan b c)) = unitCol (wide x b p) c := by
  unfold colsL
  pointwise [k0_pay15, chan]
  have hc := c.isLt
  match b with
  | 0 => rw [dif_pos (by simp)]; exact pay11_at x _ c p (by simp)
  | 1 => rw [dif_neg (by simp), dif_pos (by simp)]; exact pay12_at x _ c p (by simp)
  | 2 => rw [dif_neg (by simp; omega), dif_neg (by simp; omega), dif_pos (by simp; omega)]; exact pay13_at x _ c p (by simp; omega)
  | 3 =>
    rw [dif_neg (by simp; omega), dif_neg (by simp; omega), dif_neg (by simp; omega)]
    have e : ∀ h, (⟨192 + (64 * (3 : Fin 4).val + c.val - 64 - 64 - 64), h⟩ : Fin 256) = chan 3 c := fun h =>
      Fin.ext (by simp [chan]; omega)
    rw [e]
    pointwise [k0_pay14, k0_pay9, k0_pay10]
    simp only [unitCol, nrm, wide, chan]
    rfl

/-- A row of `64 b + c` is in the quarter `b`. -/
theorem chan_three (c : Fin 64) (k : ℕ) (hk : k = c.val) (h : 192 + k < 256) : (⟨192 + k, h⟩ : Fin 256) = chan 3 c :=
  Fin.ext (by simp [chan, hk])
theorem chan_two (c : Fin 64) (k : ℕ) (hk : k = c.val) (h : 128 + k < 256) : (⟨128 + k, h⟩ : Fin 256) = chan 2 c :=
  Fin.ext (by simp [chan, hk])

/-- The right half's columns for a wide block, before they are stored. -/
def colsR (x : Vec Ideal S256x16x48 .f32) : FVec Ideal S768x256 .f32 :=
  k0_pay1 (k0_pay16 x) (k0_pay17 x) (k0_pay18 x) (k0_pay19 x) (k0_pay20 x)

/-- The same for the right half. -/
theorem colsR_at (x : Vec Ideal S256x16x48 .f32) (b : Fin 4) (c : Fin 64) (p : Fin 768) :
    colsR x (ix2 p (chan b c)) = unitCol (wide x b p) c := by
  unfold colsR
  pointwise [k0_pay1, chan]
  have hc := c.isLt
  match b with
  | 0 => rw [dif_pos (by simp)]; exact pay18_at x _ c p (by simp)
  | 1 => rw [dif_neg (by simp), dif_pos (by simp)]; exact pay19_at x _ c p (by simp)
  | 2 =>
    rw [dif_neg (by simp; omega), dif_neg (by simp; omega), dif_pos (by simp; omega), chan_two c _ (by simp; omega)]
    pointwise [k0_pay16, k0_pay17, k0_pay20]
    simp only [unitCol, nrm, wide, chan]
    rfl
  | 3 =>
    rw [dif_neg (by simp; omega), dif_neg (by simp; omega), dif_neg (by simp; omega), chan_three c _ (by simp; omega)]
    pointwise [k0_pay16, k0_pay17]
    simp only [unitCol, nrm, wide, chan]
    rfl

/-- What is stored to the first scratch matrix. -/
theorem hiL_at (x : Vec Ideal S256x16x48 .f32) (b : Fin 4) (c : Fin 64) (p : Fin 768) :
    hiL x (ix2 p (chan b c)) = (unitR (wide x b p) c : EReal) := by
  rw [← unitCol_eq, ← colsL_at]; unfold hiL; pointwise [k0_pay4, k0_pay2]
theorem hiR_at (x : Vec Ideal S256x16x48 .f32) (b : Fin 4) (c : Fin 64) (p : Fin 768) :
    hiR x (ix2 p (chan b c)) = (unitR (wide x b p) c : EReal) := by
  rw [← unitCol_eq, ← colsR_at]; unfold hiR; pointwise [k0_pay5, k0_pay3, colsR]
/-- What is stored to the second one is zero: the columns are real and nothing is lost in the narrower format. -/
theorem loL_at (x : Vec Ideal S256x16x48 .f32) (b : Fin 4) (c : Fin 64) (p : Fin 768) :
    loL x (ix2 p (chan b c)) = 0 := by
  unfold loL
  pointwise [k0_pay6, k0_pay2]
  rw [colsL_at, unitCol_eq, ← EReal.coe_sub, sub_self, EReal.coe_zero]
theorem loR_at (x : Vec Ideal S256x16x48 .f32) (b : Fin 4) (c : Fin 64) (p : Fin 768) :
    loR x (ix2 p (chan b c)) = 0 := by
  have e : loR x (ix2 p (chan b c)) = colsR x (ix2 p (chan b c)) - colsR x (ix2 p (chan b c)) := by
    unfold loR; pointwise [k0_pay7, k0_pay3, colsR]
  rw [e, colsR_at, unitCol_eq, ← EReal.coe_sub, sub_self, EReal.coe_zero]

/-- A narrow block's scaled columns, for the first image of a pair. -/
theorem pay27_at (x : Vec Ideal S256x8x48 .f32) (b : Fin 4) (c : Fin 64) (p : Fin 384) (k : Fin 256) (hk : k.val = 64 * b.val + c.val) :
    k0_pay27 (k0_pay22 x) (k0_pay23 x) (k0_pay24 x) (k0_pay25 x) (k0_pay26 x) (Scalar.ofBits .f32 0x322BCC77#32) (ix2 p k)
      = unitCol (narrow x b p) c := by
  obtain rfl : k = chan b c := Fin.ext hk
  pointwise [k0_pay27, chan]
  have hc := c.isLt
  match b with
  | 0 => rw [dif_pos (by simp)]; exact pay23_at x _ c p (by simp)
  | 1 => rw [dif_neg (by simp), dif_pos (by simp)]; exact pay24_at x _ c p (by simp)
  | 2 => rw [dif_neg (by simp; omega), dif_neg (by simp; omega), dif_pos (by simp; omega)]; exact pay25_at x _ c p (by simp; omega)
  | 3 =>
    rw [dif_neg (by simp; omega), dif_neg (by simp; omega), dif_neg (by simp; omega), chan_three c _ (by simp; omega)]
    pointwise [k0_pay26, k0_pay21, k0_pay22]
    simp only [unitCol, nrm, narrow, chan]
    rfl

/-- A sum over the 256 columns, by image and channel, -/
theorem sum_chan {M : Type*} [AddCommMonoid M] (f : Fin 256 → M) : ∑ k, f k = ∑ b, ∑ c, f (chan b c) := by
  rw [Fin.sum_univ_tiles 4 64 rfl f]
  refine Finset.sum_congr rfl fun b _ => Finset.sum_congr rfl fun c _ => congrArg f (Fin.ext ?_)
  simp [chan]; omega
/-- and over the 512 columns of both halves. -/
theorem sum_halves {M : Type*} [AddCommMonoid M] (f : Fin 512 → M) :
    ∑ k, f k = ∑ b, ∑ c, (f (left (chan b c)) + f (right (chan b c))) := by
  rw [Fin.sum_univ_two_halves 256 256 rfl f]
  simp only [Finset.sum_add_distrib]
  rw [← sum_chan (fun k => f (left k)), ← sum_chan (fun k => f (right k))]
  rfl

set_option maxHeartbeats 2000000 in
/-- A band's weighted sum. -/
theorem bandAcc_eq (x0 : Vec Ideal S384x48x48 .f32) (x1 x2 : Vec Ideal S256x8x48 .f32) (hi lo : Vec Ideal S2304x512 .bf16) :
    bandAcc x0 x1 x2 hi lo = ∑ n : Fin 384, ∑ b : Fin 4, ∑ c : Fin 64,
      ((∑ m : Fin 2304, (ind (x0 (ix3 n ⟨m.val / 48, by omega⟩ ⟨m.val % 48, by omega⟩)) : EReal) * hi (ix2 m (left (chan b c)))
          + ∑ m : Fin 2304, (ind (x0 (ix3 n ⟨m.val / 48, by omega⟩ ⟨m.val % 48, by omega⟩)) : EReal) * lo (ix2 m (left (chan b c))))
          * unitCol (narrow x1 b n) c
        + (∑ m : Fin 2304, (ind (x0 (ix3 n ⟨m.val / 48, by omega⟩ ⟨m.val % 48, by omega⟩)) : EReal) * hi (ix2 m (right (chan b c)))
          + ∑ m : Fin 2304, (ind (x0 (ix3 n ⟨m.val / 48, by omega⟩ ⟨m.val % 48, by omega⟩)) : EReal) * lo (ix2 m (right (chan b c))))
          * unitCol (narrow x2 b n) c) := by
  unfold bandAcc
  pointwise [k0_pay34, k0_pay33]
  simp only [sitofp_bit]
  refine Finset.sum_congr rfl fun n _ => ?_
  rw [sum_halves]
  refine Finset.sum_congr rfl fun b _ => Finset.sum_congr rfl fun c _ => ?_
  have hc := c.isLt
  refine congrArg₂ (· + ·) ?_ ?_
  · refine congrArg₂ (· * ·) rfl ?_
    rw [dif_pos (by simp [left])]
    exact pay27_at x1 b c n _ rfl
  · refine congrArg₂ (· * ·) rfl ?_
    have hv : (right (chan b c)).val = 256 + (64 * b.val + c.val) := rfl
    generalize right (chan b c) = k at hv ⊢
    rw [dif_neg (by omega)]
    match b, hv with
    | 0, hv => rw [dif_pos (by simp at hv; omega)]; exact pay30_at x2 _ c n (by simp at hv ⊢; omega)
    | 1, hv => rw [dif_neg (by simp at hv; omega), dif_pos (by simp at hv; omega)]; exact pay31_at x2 _ c n (by simp at hv ⊢; omega)
    | 2, hv =>
      rw [dif_neg (by simp at hv; omega), dif_neg (by simp at hv; omega), dif_pos (by simp at hv; omega), chan_two c _ (by simp at hv; omega)]
      pointwise [k0_pay28, k0_pay29, k0_pay32]
      simp only [unitCol, nrm, narrow, chan]
      rfl
    | 3, hv =>
      rw [dif_neg (by simp at hv; omega), dif_neg (by simp at hv; omega), dif_neg (by simp at hv; omega), chan_three c _ (by simp at hv; omega)]
      pointwise [k0_pay28, k0_pay29]
      simp only [unitCol, nrm, narrow, chan]
      rfl

/-- A band's count. -/
theorem bandCnt_eq (x0 : Vec Ideal S384x48x48 .f32) :
    bandCnt x0 = ∑ n : Fin 384, ∑ h : Fin 48, ∑ w : Fin 48, (ind (x0 (ix3 n h w)) : EReal) := by
  unfold bandCnt
  pointwise [k0_pay8, k0_pay35, k0_pay33]
  rw [Ideal.reduceAdd_total _ (by intro b; fin_cases b; rfl), sum_idx4, Fin.sum_univ_one]
  pointwise
  simp only [sitofp_bit]
-- ==== Proof.Blocks.lean ====
module

public import proofs.«01_k».proof.Proof.Launch
public import proofs.«01_k».proof.Proof.Columns
public import Idealize.ShloMosaic.Lib.Pipeline.ValueKit

@[expose] public section

set_option maxRecDepth 16384

noncomputable section

namespace Cert.KernelIdeal.Body

open Cert.KernelIdeal Cert.KernelIdeal.Gen Cert.Maths
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ)

/-- The blocks each window is on: the distances, the first two arrays and the outputs on the band, -/
theorem index_0 : ∀ t : Fin cfg0.N, win0_0.index t = ![t.val - 3, 0, 0] :=
  (by decide +kernel : ∀ t : Fin grid0.N, win0_0.index t = ![t.val - 3, 0, 0])
theorem index_1 : ∀ t : Fin cfg0.N, win0_1.index t = ![0, t.val - 3, 0] :=
  (by decide +kernel : ∀ t : Fin grid0.N, win0_1.index t = ![0, t.val - 3, 0])
theorem index_2 : ∀ t : Fin cfg0.N, win0_2.index t = ![0, t.val - 3, 0] :=
  (by decide +kernel : ∀ t : Fin grid0.N, win0_2.index t = ![0, t.val - 3, 0])
theorem index_5 : ∀ t : Fin cfg0.N, win0_5.index t = ![t.val - 3, 0, 0] :=
  (by decide +kernel : ∀ t : Fin grid0.N, win0_5.index t = ![t.val - 3, 0, 0])
theorem index_6 : ∀ t : Fin cfg0.N, win0_6.index t = ![t.val - 3, 0, 0] :=
  (by decide +kernel : ∀ t : Fin grid0.N, win0_6.index t = ![t.val - 3, 0, 0])
/-- the other two arrays on the point's rows. -/
theorem index_3 : ∀ t : Fin cfg0.N, win0_3.index t = ![0, min t.val 2, 0] :=
  (by decide +kernel : ∀ t : Fin grid0.N, win0_3.index t = ![0, min t.val 2, 0])
theorem index_4 : ∀ t : Fin cfg0.N, win0_4.index t = ![0, min t.val 2, 0] :=
  (by decide +kernel : ∀ t : Fin grid0.N, win0_4.index t = ![0, min t.val 2, 0])

/-- Pixel `p` of band `i`. -/
def inBand (i : Fin 6) (p : Fin 384) : Fin 2304 := ⟨384 * i.val + p.val, by omega⟩

/-- The band of a summing point. -/
def bandPoint (i : Fin 6) : Fin cfg0.N := ⟨i.val + 3, by have := i.isLt; show i.val + 3 < 9; omega⟩

/-- The arrays the region is entered with: the arguments, reshaped. -/
theorem V_0 (c : Dev nD) : V m c main_call0_v0 = shapeCast S256x48x48 (m ((c : Thread nD τ).loc main_arg0)) shapeCasts_S4x64x48x48_S256x48x48 := rfl
theorem V_1 (c : Dev nD) : V m c main_call0_v1 = shapeCast S256x48x48 (m ((c : Thread nD τ).loc main_arg2)) shapeCasts_S4x64x48x48_S256x48x48 := rfl
theorem V_2 (c : Dev nD) : V m c main_call0_v2 = shapeCast S256x48x48 (m ((c : Thread nD τ).loc main_arg3)) shapeCasts_S4x64x48x48_S256x48x48 := rfl
theorem V_3 (c : Dev nD) : V m c main_call0_v3 = shapeCast S256x48x48 (m ((c : Thread nD τ).loc main_arg1)) shapeCasts_S4x64x48x48_S256x48x48 := rfl
theorem V_4 (c : Dev nD) : V m c main_call0_v4 = shapeCast S2304x48x48 (m ((c : Thread nD τ).loc main_arg4)) shapeCasts_S48x48x48x48_S2304x48x48 := rfl

/-- The distances' block: whole pixels of the band. -/
theorem read_0 (t : Fin cfg0.N) (X : S2304x48x48.Idx → EReal) (r : Fin 384) (h w : Fin 48) (n : Fin 2304) (hn : n.val = (t.val - 3) * 384 + r.val) :
    ((cfg0.win 0).blk t).view.read (Elt Ideal) X (ix3 r h w) = X (ix3 n h w) := by
  have e (ax : Fin 3) : ((win0_0.rect t).emb (ix3 r h w) ax).val = win0_0.index t ax * win0_0.size ax + (ix3 r h w ax).val :=
    Pipeline.Window.rect_emb_val win0_0 t _ ax rfl
  rw [index_0 t] at e
  refine congrArg X (funext fun ax => Fin.ext ?_)
  match ax with
  | ⟨0, _⟩ => exact (e 0).trans (show (t.val - 3) * 384 + r.val = n.val by omega)
  | ⟨1, _⟩ => exact (e 1).trans (show 0 * 48 + h.val = h.val by omega)
  | ⟨2, _⟩ => exact (e 2).trans (show 0 * 48 + w.val = w.val by omega)

/-- The other blocks: some rows of every channel. -/
theorem read_1 (t : Fin cfg0.N) (X : S256x48x48.Idx → EReal) (a : Fin 256) (r : Fin 8) (w : Fin 48) (n : Fin 48) (hn : n.val = (t.val - 3) * 8 + r.val) :
    ((cfg0.win 1).blk t).view.read (Elt Ideal) X (ix3 a r w) = X (ix3 a n w) := by
  have h (ax : Fin 3) : ((win0_1.rect t).emb (ix3 a r w) ax).val = win0_1.index t ax * win0_1.size ax + (ix3 a r w ax).val :=
    Pipeline.Window.rect_emb_val win0_1 t _ ax rfl
  rw [index_1 t] at h
  refine congrArg X (funext fun ax => Fin.ext ?_)
  match ax with
  | ⟨0, _⟩ => exact (h 0).trans (show 0 * 256 + a.val = a.val by omega)
  | ⟨1, _⟩ => exact (h 1).trans (show (t.val - 3) * 8 + r.val = n.val by omega)
  | ⟨2, _⟩ => exact (h 2).trans (show 0 * 48 + w.val = w.val by omega)

theorem read_2 (t : Fin cfg0.N) (X : S256x48x48.Idx → EReal) (a : Fin 256) (r : Fin 8) (w : Fin 48) (n : Fin 48) (hn : n.val = (t.val - 3) * 8 + r.val) :
    ((cfg0.win 2).blk t).view.read (Elt Ideal) X (ix3 a r w) = X (ix3 a n w) := by
  have h (ax : Fin 3) : ((win0_2.rect t).emb (ix3 a r w) ax).val = win0_2.index t ax * win0_2.size ax + (ix3 a r w ax).val :=
    Pipeline.Window.rect_emb_val win0_2 t _ ax rfl
  rw [index_2 t] at h
  refine congrArg X (funext fun ax => Fin.ext ?_)
  match ax with
  | ⟨0, _⟩ => exact (h 0).trans (show 0 * 256 + a.val = a.val by omega)
  | ⟨1, _⟩ => exact (h 1).trans (show (t.val - 3) * 8 + r.val = n.val by omega)
  | ⟨2, _⟩ => exact (h 2).trans (show 0 * 48 + w.val = w.val by omega)

theorem read_3 (t : Fin cfg0.N) (X : S256x48x48.Idx → EReal) (a : Fin 256) (r : Fin 16) (w : Fin 48) (n : Fin 48) (hn : n.val = min t.val 2 * 16 + r.val) :
    ((cfg0.win 3).blk t).view.read (Elt Ideal) X (ix3 a r w) = X (ix3 a n w) := by
  have h (ax : Fin 3) : ((win0_3.rect t).emb (ix3 a r w) ax).val = win0_3.index t ax * win0_3.size ax + (ix3 a r w ax).val :=
    Pipeline.Window.rect_emb_val win0_3 t _ ax rfl
  rw [index_3 t] at h
  refine congrArg X (funext fun ax => Fin.ext ?_)
  match ax with
  | ⟨0, _⟩ => exact (h 0).trans (show 0 * 256 + a.val = a.val by omega)
  | ⟨1, _⟩ => exact (h 1).trans (show min t.val 2 * 16 + r.val = n.val by omega)
  | ⟨2, _⟩ => exact (h 2).trans (show 0 * 48 + w.val = w.val by omega)

theorem read_4 (t : Fin cfg0.N) (X : S256x48x48.Idx → EReal) (a : Fin 256) (r : Fin 16) (w : Fin 48) (n : Fin 48) (hn : n.val = min t.val 2 * 16 + r.val) :
    ((cfg0.win 4).blk t).view.read (Elt Ideal) X (ix3 a r w) = X (ix3 a n w) := by
  have h (ax : Fin 3) : ((win0_4.rect t).emb (ix3 a r w) ax).val = win0_4.index t ax * win0_4.size ax + (ix3 a r w ax).val :=
    Pipeline.Window.rect_emb_val win0_4 t _ ax rfl
  rw [index_4 t] at h
  refine congrArg X (funext fun ax => Fin.ext ?_)
  match ax with
  | ⟨0, _⟩ => exact (h 0).trans (show 0 * 256 + a.val = a.val by omega)
  | ⟨1, _⟩ => exact (h 1).trans (show min t.val 2 * 16 + r.val = n.val by omega)
  | ⟨2, _⟩ => exact (h 2).trans (show 0 * 48 + w.val = w.val by omega)

/-- The reshape of an array of images: image and channel become one coordinate. -/
theorem flat_at (A : S4x64x48x48.Idx → EReal) (b : Fin 4) (c : Fin 64) (n w : Fin 48) :
    shapeCast S256x48x48 A shapeCasts_S4x64x48x48_S256x48x48 (ix3 (chan b c) n w) = A (ix4 b c n w) := by
  refine shapeCast_apply A _ _ _ ?_
  rw [Shape.rowMajor_val_four, Shape.rowMajor_val_three]
  show ((b.val * 64 + c.val) * 48 + n.val) * 48 + w.val = ((64 * b.val + c.val) * 48 + n.val) * 48 + w.val
  omega

/-- The reshape of the distances: the first pixel's two coordinates become one. -/
theorem dist_at (D : S48x48x48x48.Idx → EReal) (n : Fin 2304) (h w : Fin 48) :
    shapeCast S2304x48x48 D shapeCasts_S48x48x48x48_S2304x48x48 (ix3 n h w)
      = D (ix4 ⟨n.val / 48, by omega⟩ ⟨n.val % 48, by omega⟩ h w) := by
  refine shapeCast_apply D _ _ _ ?_
  rw [Shape.rowMajor_val_four, Shape.rowMajor_val_three]
  show ((n.val / 48 * 48 + n.val % 48) * 48 + h.val) * 48 + w.val = (n.val * 48 + h.val) * 48 + w.val
  omega

/-- A band's pixels, in the two arrays read by bands. -/
theorem band_1 (c : Dev nD) (i : Fin 6) (b : Fin 4) (p : Fin 384) :
    narrow (iblk m c 1 (bandPoint i)) b p = pix (m ((c : Thread nD τ).loc main_arg0)) b (inBand i p) := by
  funext ch
  unfold narrow pix inBand
  refine (read_1 (bandPoint i) (V m c main_call0_v0) _ _ _ ⟨8 * i.val + p.val / 48, by omega⟩ (by simp [bandPoint]; omega)).trans ?_
  rw [V_0]
  refine (flat_at _ b ch _ _).trans ?_
  refine congrArg _ (congrArg₂ (ix4 b ch) (Fin.ext ?_) (Fin.ext ?_)) <;> simp <;> omega

theorem band_2 (c : Dev nD) (i : Fin 6) (b : Fin 4) (p : Fin 384) :
    narrow (iblk m c 2 (bandPoint i)) b p = pix (m ((c : Thread nD τ).loc main_arg2)) b (inBand i p) := by
  funext ch
  unfold narrow pix inBand
  refine (read_2 (bandPoint i) (V m c main_call0_v1) _ _ _ ⟨8 * i.val + p.val / 48, by omega⟩ (by simp [bandPoint]; omega)).trans ?_
  rw [V_1]
  refine (flat_at _ b ch _ _).trans ?_
  refine congrArg _ (congrArg₂ (ix4 b ch) (Fin.ext ?_) (Fin.ext ?_)) <;> simp <;> omega

/-- A filling point's pixels, in the two arrays read a third at a time. -/
theorem third_3 (c : Dev nD) (t : Fin cfg0.N) (ht : t.val < 3) (b : Fin 4) (p : Fin 768) (n : Fin 2304) (hn : n.val = 768 * t.val + p.val) :
    wide (iblk m c 3 t) b p = pix (m ((c : Thread nD τ).loc main_arg3)) b n := by
  funext ch
  unfold wide pix
  refine (read_3 t (V m c main_call0_v2) _ _ _ ⟨n.val / 48, by omega⟩ (by simp; omega)).trans ?_
  rw [V_2]
  refine (flat_at _ b ch _ _).trans ?_
  refine congrArg _ (congrArg₂ (ix4 b ch) (Fin.ext ?_) (Fin.ext ?_)) <;> simp <;> omega

theorem third_4 (c : Dev nD) (t : Fin cfg0.N) (ht : t.val < 3) (b : Fin 4) (p : Fin 768) (n : Fin 2304) (hn : n.val = 768 * t.val + p.val) :
    wide (iblk m c 4 t) b p = pix (m ((c : Thread nD τ).loc main_arg1)) b n := by
  funext ch
  unfold wide pix
  refine (read_4 t (V m c main_call0_v3) _ _ _ ⟨n.val / 48, by omega⟩ (by simp; omega)).trans ?_
  rw [V_3]
  refine (flat_at _ b ch _ _).trans ?_
  refine congrArg _ (congrArg₂ (ix4 b ch) (Fin.ext ?_) (Fin.ext ?_)) <;> simp <;> omega

/-- A band's distances. -/
theorem near_0 (c : Dev nD) (i : Fin 6) (p : Fin 384) (k : Fin 2304) :
    ind (iblk m c 0 (bandPoint i) (ix3 p ⟨k.val / 48, by omega⟩ ⟨k.val % 48, by omega⟩)) = nearR (m ((c : Thread nD τ).loc main_arg4)) (inBand i p) k := by
  unfold nearR
  refine congrArg ind ?_
  refine (read_0 (bandPoint i) (V m c main_call0_v4) _ _ _ (inBand i p) (by simp [bandPoint, inBand]; omega)).trans ?_
  rw [V_4]
  exact dist_at _ _ _ _

/-- The point that fills a row, -/
def fillPoint (k : Fin 2304) : Fin cfg0.N := ⟨k.val / 768, by have : cfg0.N = 9 := N_0; omega⟩
/-- and the row's place there. -/
def fillRow (k : Fin 2304) : Fin 768 := ⟨k.val % 768, by omega⟩

theorem whole_left (a b : Fin cfg0.N → FVec Ideal S768x256 .bf16) (k : Fin 2304) (q : Fin 256) :
    whole a b (ix2 k (left q)) = a (fillPoint k) (ix2 (fillRow k) q) := by
  unfold whole
  refine (if_pos (show (left q).val < 256 from q.isLt)).trans ?_
  refine congrArg (a (fillPoint k)) (funext fun ax => Fin.ext ?_)
  match ax with
  | ⟨0, _⟩ => rfl
  | ⟨1, _⟩ => exact Nat.mod_eq_of_lt q.isLt

theorem whole_right (a b : Fin cfg0.N → FVec Ideal S768x256 .bf16) (k : Fin 2304) (q : Fin 256) :
    whole a b (ix2 k (right q)) = b (fillPoint k) (ix2 (fillRow k) q) := by
  unfold whole
  refine (if_neg (show ¬ (right q).val < 256 by show ¬ (256 + q.val < 256); omega)).trans ?_
  refine congrArg (b (fillPoint k)) (funext fun ax => Fin.ext ?_)
  match ax with
  | ⟨0, _⟩ => rfl
  | ⟨1, _⟩ => show (256 + q.val) % 256 = q.val; omega

/-- The first scratch matrix holds the scaled columns of the two arrays, one in each half, -/
theorem hiAll_left (c : Dev nD) (k : Fin 2304) (b : Fin 4) (ch : Fin 64) :
    hiAll m c (ix2 k (left (chan b ch))) = (unitR (pix (m ((c : Thread nD τ).loc main_arg3)) b k) ch : EReal) := by
  unfold hiAll
  rw [whole_left, hiL_at, third_3 m c (fillPoint k) (show k.val / 768 < 3 by omega) b (fillRow k) k (show k.val = 768 * (k.val / 768) + k.val % 768 by omega)]
theorem hiAll_right (c : Dev nD) (k : Fin 2304) (b : Fin 4) (ch : Fin 64) :
    hiAll m c (ix2 k (right (chan b ch))) = (unitR (pix (m ((c : Thread nD τ).loc main_arg1)) b k) ch : EReal) := by
  unfold hiAll
  rw [whole_right, hiR_at, third_4 m c (fillPoint k) (show k.val / 768 < 3 by omega) b (fillRow k) k (show k.val = 768 * (k.val / 768) + k.val % 768 by omega)]
/-- and the second is zero. -/
theorem loAll_left (c : Dev nD) (k : Fin 2304) (b : Fin 4) (ch : Fin 64) : loAll m c (ix2 k (left (chan b ch))) = 0 := by
  unfold loAll
  rw [whole_left, loL_at]
theorem loAll_right (c : Dev nD) (k : Fin 2304) (b : Fin 4) (ch : Fin 64) : loAll m c (ix2 k (right (chan b ch))) = 0 := by
  unfold loAll
  rw [whole_right, loR_at]

end Cert.KernelIdeal.Body

end
-- ==== Proof.Total.lean ====
module

public import proofs.«01_k».proof.Proof.Blocks

@[expose] public section

set_option maxRecDepth 16384

noncomputable section

namespace Cert.KernelIdeal.Body

open Cert.KernelIdeal Cert.KernelIdeal.Gen Cert.Maths
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ)

/-- The sum of both pairs' cosines at one image and two pixels, of the memory's arrays. -/
def both (c : Dev nD) (b : Fin 4) (n k : Fin 2304) : ℝ :=
  cosR (m ((c : Thread nD τ).loc main_arg0)) (m ((c : Thread nD τ).loc main_arg3)) b n k
    + cosR (m ((c : Thread nD τ).loc main_arg2)) (m ((c : Thread nD τ).loc main_arg1)) b n k

/-- Summing the masked columns first and then taking the inner products is summing the masked inner products. -/
theorem mask_first {κ : Type} [Fintype κ] (M : κ → ℝ) (u u' : Fin 4 → κ → Fin 64 → ℝ) (v v' : Fin 4 → Fin 64 → ℝ) :
    ∑ b, ∑ c, ((∑ k, M k * u b k c) * v b c + (∑ k, M k * u' b k c) * v' b c)
      = ∑ b, ∑ k, ((∑ c, v b c * u b k c) + ∑ c, v' b c * u' b k c) * M k := by
  refine Finset.sum_congr rfl fun b _ => ?_
  simp only [Finset.sum_mul, ← Finset.sum_add_distrib]
  rw [Finset.sum_comm]
  refine Finset.sum_congr rfl fun k _ => Finset.sum_congr rfl fun c _ => ?_
  ring

/-- A band's sum of cosines over near pixels, -/
theorem bandAcc_at (c : Dev nD) (i : Fin 6) :
    bandAcc (iblk m c 0 (bandPoint i)) (iblk m c 1 (bandPoint i)) (iblk m c 2 (bandPoint i)) (hiAll m c) (loAll m c)
      = ((∑ p : Fin 384, ∑ b, ∑ k, both m c b (inBand i p) k * nearR (m ((c : Thread nD τ).loc main_arg4)) (inBand i p) k : ℝ) : EReal) := by
  rw [bandAcc_eq]
  simp only [near_0, hiAll_left, hiAll_right, loAll_left, loAll_right, mul_zero, Finset.sum_const_zero, add_zero, unitCol_eq, band_1,
    band_2, ← EReal.coe_mul, ← coe_sum, ← EReal.coe_add]
  refine congrArg _ (Finset.sum_congr rfl fun p _ => ?_)
  rw [mask_first]
  rfl

/-- and its number of near pairs. -/
theorem bandCnt_at (c : Dev nD) (i : Fin 6) :
    bandCnt (iblk m c 0 (bandPoint i))
      = ((∑ p : Fin 384, ∑ k, nearR (m ((c : Thread nD τ).loc main_arg4)) (inBand i p) k : ℝ) : EReal) := by
  rw [bandCnt_eq]
  simp only [← coe_sum]
  refine congrArg _ (Finset.sum_congr rfl fun p _ => ?_)
  rw [Fin.sum_univ_tiles 48 48 rfl]
  refine Finset.sum_congr rfl fun h _ => Finset.sum_congr rfl fun w _ => ?_
  rw [← near_0]
  refine congrArg ind (congrArg _ (congrArg₂ (ix3 p) (Fin.ext ?_) (Fin.ext ?_))) <;> simp <;> omega

/-- A sum over all pixels, band by band. -/
theorem sum_bands (f : Fin 2304 → ℝ) : ∑ n, f n = ∑ i : Fin 6, ∑ p : Fin 384, f (inBand i p) := by
  rw [Fin.sum_univ_tiles 6 384 rfl]
  refine Finset.sum_congr rfl fun i _ => Finset.sum_congr rfl fun p _ => congrArg f (Fin.ext ?_)
  simp [inBand]; omega

theorem point_of_flushed (t : Fin cfg0.N) (h : 3 ≤ t.val) (i : Fin 6) (hi : i.val = t.val - 3) : bandPoint i = t :=
  Fin.ext (show i.val + 3 = t.val by omega)

/-- An output array holds, at each band, what its point left there. -/
theorem arr_of_5 (c : Dev nD) (g : Fin cfg0.N → EReal) (hg : ∀ t, (dats m 0 c).after 5 t = fun _ => g t) :
    (dats m 0 c).arrAt 5 cfg0.N = fun j : S6x1x1.Idx => g (bandPoint (j 0)) := by
  refine (dats m 0 c).arrAt_eq_of_covers 5 _ (by decide +kernel) fun t hf y => ?_
  rw [flush_5 t, decide_eq_true_iff] at hf
  have h : ((win0_5.rect t).emb y 0).val = win0_5.index t 0 * win0_5.size 0 + (y 0).val :=
    Pipeline.Window.rect_emb_val win0_5 t _ 0 rfl
  rw [index_5 t] at h
  have hy : (y 0).val < 1 := (y 0).isLt
  have e : bandPoint (((cfg0.win 5).blk t).view.emb y 0) = t :=
    point_of_flushed t hf _ (h.trans (show (t.val - 3) * 1 + (y 0).val = t.val - 3 by omega))
  refine (cast_eq _ _).trans ((congrFun (hg t) _).trans ?_)
  exact congrArg g e.symm

/-- The same for the other output. -/
theorem arr_of_6 (c : Dev nD) (g : Fin cfg0.N → EReal) (hg : ∀ t, (dats m 0 c).after 6 t = fun _ => g t) :
    (dats m 0 c).arrAt 6 cfg0.N = fun j : S6x1x1.Idx => g (bandPoint (j 0)) := by
  refine (dats m 0 c).arrAt_eq_of_covers 6 _ (by decide +kernel) fun t hf y => ?_
  rw [flush_6 t, decide_eq_true_iff] at hf
  have h : ((win0_6.rect t).emb y 0).val = win0_6.index t 0 * win0_6.size 0 + (y 0).val :=
    Pipeline.Window.rect_emb_val win0_6 t _ 0 rfl
  rw [index_6 t] at h
  have hy : (y 0).val < 1 := (y 0).isLt
  have e : bandPoint (((cfg0.win 6).blk t).view.emb y 0) = t :=
    point_of_flushed t hf _ (h.trans (show (t.val - 3) * 1 + (y 0).val = t.val - 3 by omega))
  refine (cast_eq _ _).trans ((congrFun (hg t) _).trans ?_)
  exact congrArg g e.symm

/-- What the two output arrays hold after the run: each band's sum -/
theorem arr_5 (c : Dev nD) : (dats m 0 c).arrAt 5 cfg0.N
    = fun j : S6x1x1.Idx => bandAcc (iblk m c 0 (bandPoint (j 0))) (iblk m c 1 (bandPoint (j 0))) (iblk m c 2 (bandPoint (j 0))) (hiAll m c) (loAll m c) :=
  arr_of_5 m c (fun t => bandAcc (iblk m c 0 t) (iblk m c 1 t) (iblk m c 2 t) (hiAll m c) (loAll m c)) (after_5 m c)

/-- and each band's count. -/
theorem arr_6 (c : Dev nD) : (dats m 0 c).arrAt 6 cfg0.N = fun j : S6x1x1.Idx => bandCnt (iblk m c 0 (bandPoint (j 0))) :=
  arr_of_6 m c (fun t => bandCnt (iblk m c 0 t)) (after_6 m c)

/-- The host lines after the call, of the two arrays. -/
def tail (s k : FVec Ideal S6x1x1 .f32) : FVec Ideal S_ .f32 :=
  Host.divf (Host.negf (Host.reduceAdd s (constant S_ .f32 0x00000000#32) reducesTo_S6x1x1_S_d0_1_2 h_S_))
    (mulf (Host.reduceAdd k (constant S_ .f32 0x00000000#32) reducesTo_S6x1x1_S_d0_1_2 h_S_) (constant S_ .f32 0x40800000#32))

/-- They divide the negated total by four times the count. -/
theorem tail_at (s k : FVec Ideal S6x1x1 .f32) (j : S_.Idx) :
    tail s k j = Ideal.div (-(∑ i : Fin 6, s (ix3 i 0 0))) ((∑ i : Fin 6, k (ix3 i 0 0)) * four) := by
  pointwise [tail]
  simp only [Fin.sum_univ_one]

/-- The result, of the two arrays as the run leaves them. -/
def result (c : Dev nD) : FVec Ideal S_ .f32 := tail ((dats m 0 c).arrAt 5 cfg0.N) ((dats m 0 c).arrAt 6 cfg0.N)

/-- The result's buffer after the run. -/
theorem result_tail (c : Dev nD) :
    Pipeline.afterTail₀ cfgs (dats m) 0 (V0 m) [hostOps1] c main_v0 = result m c := by
  unfold Pipeline.afterTail₀ result tail
  simp only [List.flatten_cons, List.flatten_nil, List.append_nil, hostOps1, StableHlo.TRef.binary, StableHlo.TRef.nullary, StableHlo.TRef.unary, StableHlo.TRef.toBuf, StableHlo.TRef.ofBuf, cast_eq]
  after_results_simp
  rw [show Pipeline.withArrays (cfgs 0).spec c (V0 m c) (fun w => (dats m 0 c).arrAt w (cfgs 0).N) (Proc.tc.devRef main_call0_v5_0)
      = (dats m 0 c).arrAt 5 cfg0.N from
    Pipeline.withArrays_arr spec0 (by decide) c (V0 m c) (fun w => (dats m 0 c).arrAt w cfg0.N) 5,
    show Pipeline.withArrays (cfgs 0).spec c (V0 m c) (fun w => (dats m 0 c).arrAt w (cfgs 0).N) (Proc.tc.devRef main_call0_v5_1)
      = (dats m 0 c).arrAt 6 cfg0.N from
    Pipeline.withArrays_arr spec0 (by decide) c (V0 m c) (fun w => (dats m 0 c).arrAt w cfg0.N) 6]

/-- The result in real numbers. -/
theorem result_eq (c : Dev nD) (j : S_.Idx) :
    result m c j
      = Ideal.div ((-(∑ b, ∑ n, ∑ k, both m c b n k * nearR (m ((c : Thread nD τ).loc main_arg4)) n k) : ℝ) : EReal)
          (((∑ n, ∑ k, nearR (m ((c : Thread nD τ).loc main_arg4)) n k : ℝ) : EReal) * four) := by
  unfold result
  rw [tail_at, arr_5, arr_6]
  refine congrArg₂ (fun x y => Ideal.div x (y * four)) ?_ ?_
  · rw [EReal.coe_neg, Finset.sum_comm, sum_bands, coe_sum]
    exact congrArg _ (Finset.sum_congr rfl fun i _ => bandAcc_at m c i)
  · rw [sum_bands, coe_sum]
    exact Finset.sum_congr rfl fun i _ => bandCnt_at m c i

/-- The run: the result's buffer at its value, the arguments unchanged. -/
theorem result_run (ρ : Dev nD → PrngReg) : θ_run defs (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ⟨?_, h.2.1 c⟩) (θ_run_and (run_main m ρ) (frame m ρ))
  exact ((h.1.1 c).2 main_v0 (Pipeline.mem_restRefs_of main_v0 (by decide) (by decide))).trans (result_tail m c)

end Cert.KernelIdeal.Body

end
-- ==== Proof.Same.lean ====
module

public import proofs.«01_k».proof.Proof.Launch
public import proofs.«01_k».proof.Proof.Gen.Kernel.Frame
public import proofs.«01_k».proof.Proof.Gen.KernelIdeal.Frame

@[expose] public section

/-
  The idealization rewrote no operation, so the two printed programs differ in their names alone: over any float values the
  one is the other. What is proved of the idealization over any float values is thereby proved of the kernel.
-/

set_option maxRecDepth 16384

noncomputable section

namespace Cert.Same

open Idealize.ShloMosaic Idealize.ShloMosaic.TcCoe Idealize.SL.Sem

variable {F : FTy → Type} [FloatOps F]

/-- The two kernel bodies are one, -/
theorem fused_eq : Cert.Kernel.cc0__fused_kernel (F := F) = Cert.KernelIdeal.cc0__fused_kernel (F := F) := rfl

/-- so are the body tables' rows, -/
theorem row_eq (t : Fin Cert.Kernel.cfg0.N) (s : ∀ w, Fin (Cert.Kernel.win0 w).nbuf) :
    Cert.Kernel.defs₀ (F := F) .tc 0 (t, s) = Cert.KernelIdeal.defs₀ (F := F) .tc 0 (t, s) := rfl

/-- the body tables, -/
theorem defs₀_eq : Cert.Kernel.defs₀ (F := F) = Cert.KernelIdeal.defs₀ := by
  unfold Cert.Kernel.defs₀ Cert.KernelIdeal.defs₀
  refine congrArg Defs.onTc (funext fun l => funext fun a => ?_)
  match l, a with
  | 0, (t, s) => exact row_eq t s
  | ⟨_ + 1, h⟩, _ => exact absurd h (by simp)

/-- the tables with the pipeline's labels -/
theorem defs_eq : Cert.Kernel.defs (F := F) = Cert.KernelIdeal.defs :=
  congrArg (Pipeline.defs Cert.KernelIdeal.pcfgs) defs₀_eq

/-- and the programs that call them. -/
theorem main_eq : Cert.Kernel.main (F := F) = Cert.KernelIdeal.main :=
  funext fun c => (Cert.Kernel.Gen.main_chain c).trans (Cert.KernelIdeal.Gen.main_chain c).symm

/-- The kernel's argument arrays end unchanged and every semaphore counter at zero. -/
theorem frame (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0) := by
  rw [defs_eq, main_eq]
  exact Cert.KernelIdeal.Body.frame m ρ

end Cert.Same

end
-- ==== Proof.RefValue.lean ====
module

public import proofs.«01_k».proof.Proof.Gen.ReferenceIdeal.Run
public import proofs.«01_k».proof.Proof.Maths

@[expose] public section

set_option maxRecDepth 16384

noncomputable section

namespace Cert.ReferenceIdeal.Value

open Cert.ReferenceIdeal Cert.ReferenceIdeal.Gen Cert.Maths
open Idealize.ShloMosaic

/-- The norms of the columns of one flattened array, bounded below, -/
def norms (x : FVec Ideal S4x64x2304 .f32) : FVec Ideal S4x2304 .f32 :=
  maximumf (Host.sqrt (Host.reduceAdd (mulf x x) (constant S_ .f32 0x00000000#32) reducesTo_S4x64x2304_S4x2304_d1 h_S_))
    (broadcastInDim S4x2304 ![] bcast_S_S4x2304 (constant S_ .f32 0x322BCC77#32))

/-- the cosines of all pairs of columns of two of them -/
def cosines (x y : FVec Ideal S4x64x2304 .f32) : FVec Ideal S4x2304x2304 .f32 :=
  Host.divf (Host.dotGeneral dot_S4x64x2304_S4x64x2304_S4x2304x2304_1_1_2_2_0_0 none x y)
    (mulf (broadcastInDim S4x2304x2304 ![0, 1, 2] bcast_S4x2304x1_S4x2304x2304_0_1_2
        (broadcastInDim S4x2304x1 ![0, 1] bcast_S4x2304_S4x2304x1_0_1 (norms x)))
      (broadcastInDim S4x2304x2304 ![0, 1, 2] bcast_S4x1x2304_S4x2304x2304_0_1_2
        (broadcastInDim S4x1x2304 ![0, 2] bcast_S4x2304_S4x1x2304_0_2 (norms y))))

/-- and the pairs that are near. -/
def near (d : FVec Ideal S48x48x48x48 .f32) : FVec Ideal S2304x2304 .f32 :=
  uitofp .f32 (cmpf .olt (shapeCast S2304x2304 d shapeCasts_S48x48x48x48_S2304x2304)
    (broadcastInDim S2304x2304 ![] bcast_S_S2304x2304 (constant S_ .f32 0x3F000000#32)))

/-- The reference's result as a function of its arguments. -/
def out (y yp z zp : FVec Ideal S4x64x48x48 .f32) (d : FVec Ideal S48x48x48x48 .f32) : FVec Ideal S_ .f32 :=
  Host.divf (Host.reduceAdd (Host.divf
    (Host.reduceAdd (mulf (Host.negf (addf
        (cosines (shapeCast S4x64x2304 y shapeCasts_S4x64x48x48_S4x64x2304) (shapeCast S4x64x2304 zp shapeCasts_S4x64x48x48_S4x64x2304))
        (cosines (shapeCast S4x64x2304 z shapeCasts_S4x64x48x48_S4x64x2304) (shapeCast S4x64x2304 yp shapeCasts_S4x64x48x48_S4x64x2304))))
      (broadcastInDim S4x2304x2304 ![0, 1, 2] bcast_S1x2304x2304_S4x2304x2304_0_1_2
        (broadcastInDim S1x2304x2304 ![1, 2] bcast_S2304x2304_S1x2304x2304_1_2 (near d))))
      (constant S_ .f32 0x00000000#32) reducesTo_S4x2304x2304_S4_d1_2 h_S_)
    (broadcastInDim S4 ![] bcast_S_S4 (Host.reduceAdd (near d) (constant S_ .f32 0x00000000#32) reducesTo_S2304x2304_S_d0_1 h_S_)))
    (constant S_ .f32 0x00000000#32) reducesTo_S4_S_d0 h_S_) (constant S_ .f32 0x40800000#32)

theorem norms_at (A : FVec Ideal S4x64x48x48 .f32) (b : Fin 4) (n : Fin 2304) :
    norms (shapeCast S4x64x2304 A shapeCasts_S4x64x48x48_S4x64x2304) (ix2 b n) = nrm (pix A b n) := by
  pointwise [norms]
  simp only [nrm, pix]

theorem cosines_at (A B : FVec Ideal S4x64x48x48 .f32) (b : Fin 4) (n m : Fin 2304) :
    cosines (shapeCast S4x64x2304 A shapeCasts_S4x64x48x48_S4x64x2304) (shapeCast S4x64x2304 B shapeCasts_S4x64x48x48_S4x64x2304) (ix3 b n m)
      = (cosR A B b n m : EReal) := by
  unfold cosR
  rw [← cosine, ← norms_at, ← norms_at]
  pointwise [cosines]
  simp only [pix]

theorem near_at (d : FVec Ideal S48x48x48x48 .f32) (n m : Fin 2304) : near d (ix2 n m) = (nearR d n m : EReal) := by
  pointwise [near]
  simp only [uitofp_bit, nearR]

/-- The sum over all pairs of pixels, -/
theorem sum_pairs (N : FVec Ideal S2304x2304 .f32) (j : S_.Idx) :
    Host.reduceAdd N (constant S_ .f32 0x00000000#32) reducesTo_S2304x2304_S_d0_1 h_S_ j = ∑ n : Fin 2304, ∑ m : Fin 2304, N (ix2 n m) := by
  pointwise
/-- the same for one image, -/
theorem sum_image (X : FVec Ideal S4x2304x2304 .f32) (b : Fin 4) :
    Host.reduceAdd X (constant S_ .f32 0x00000000#32) reducesTo_S4x2304x2304_S4_d1_2 h_S_ (ix1 b)
      = ∑ n : Fin 2304, ∑ m : Fin 2304, X (ix3 b n m) := by
  pointwise
/-- the negated and masked terms of these sums -/
theorem masked_at (X : FVec Ideal S4x2304x2304 .f32) (N : FVec Ideal S2304x2304 .f32) (b : Fin 4) (n m : Fin 2304) :
    mulf (Host.negf X) (broadcastInDim S4x2304x2304 ![0, 1, 2] bcast_S1x2304x2304_S4x2304x2304_0_1_2
        (broadcastInDim S1x2304x2304 ![1, 2] bcast_S2304x2304_S1x2304x2304_1_2 N)) (ix3 b n m) = -X (ix3 b n m) * N (ix2 n m) := by
  pointwise
/-- and the mean over the images of quotients by one count. -/
theorem mean_at (X : FVec Ideal S4 .f32) (P : FVec Ideal S_ .f32) (j : S_.Idx) :
    Host.divf (Host.reduceAdd (Host.divf X (broadcastInDim S4 ![] bcast_S_S4 P)) (constant S_ .f32 0x00000000#32) reducesTo_S4_S_d0 h_S_)
        (constant S_ .f32 0x40800000#32) j
      = Ideal.div (∑ b : Fin 4, Ideal.div (X (ix1 b)) (P ix0)) four := by
  pointwise

/-- The reference's result. -/
theorem out_eq (y yp z zp : FVec Ideal S4x64x48x48 .f32) (d : FVec Ideal S48x48x48x48 .f32) (j : S_.Idx) :
    out y yp z zp d j = Ideal.div (∑ b : Fin 4, Ideal.div
        ((∑ n, ∑ m, -(cosR y zp b n m + cosR z yp b n m) * nearR d n m : ℝ) : EReal) ((∑ n, ∑ m, nearR d n m : ℝ) : EReal)) four := by
  unfold out
  rw [mean_at]
  refine congrArg₂ Ideal.div ?_ rfl
  refine Finset.sum_congr rfl fun b _ => ?_
  rw [sum_image, sum_pairs]
  refine congrArg₂ Ideal.div ?_ ?_
  · simp only [coe_sum]
    refine Finset.sum_congr rfl fun n _ => Finset.sum_congr rfl fun m _ => ?_
    rw [masked_at, addf_apply, cosines_at, cosines_at, near_at, EReal.coe_mul, EReal.coe_neg, EReal.coe_add]
    rfl
  · simp only [coe_sum, near_at]

end Cert.ReferenceIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Total
public import proofs.«01_k».proof.Proof.Same
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem
open Cert.Maths

/-- The arguments' values, one device's, as the reference's result takes them. -/
abbrev common (m : (ℓ : Loc KernelIdeal.nD KernelIdeal.τ KernelIdeal.sig) → Buf (Elt Ideal) ℓ) (c : Dev KernelIdeal.nD) :
    FVec Ideal ReferenceIdeal.S_ .f32 :=
  ReferenceIdeal.Value.out (m ((c.tc : Thread KernelIdeal.nD KernelIdeal.τ).loc KernelIdeal.main_arg0))
    (m ((c.tc : Thread KernelIdeal.nD KernelIdeal.τ).loc KernelIdeal.main_arg1))
    (m ((c.tc : Thread KernelIdeal.nD KernelIdeal.τ).loc KernelIdeal.main_arg2))
    (m ((c.tc : Thread KernelIdeal.nD KernelIdeal.τ).loc KernelIdeal.main_arg3))
    (m ((c.tc : Thread KernelIdeal.nD KernelIdeal.τ).loc KernelIdeal.main_arg4))

/-- What the kernel's result holds is the reference's value of the same arguments. -/
theorem values_agree (m : (ℓ : Loc KernelIdeal.nD KernelIdeal.τ KernelIdeal.sig) → Buf (Elt Ideal) ℓ) (c : Dev KernelIdeal.nD) :
    KernelIdeal.Body.result m c = common m c := by
  funext j
  refine (KernelIdeal.Body.result_eq m c j).trans (Eq.trans ?_ (ReferenceIdeal.Value.out_eq _ _ _ _ _ j).symm)
  exact (mean_eq (nearR (m ((c.tc : Thread KernelIdeal.nD KernelIdeal.τ).loc KernelIdeal.main_arg4)))
    (fun _ _ => nearR_nonneg _ _ _) (KernelIdeal.Body.both m c)).symm

/-- The reference's run: the result at its value, the arguments unchanged. -/
theorem reference_run (m : (ℓ : Loc ReferenceIdeal.nD ReferenceIdeal.τ ReferenceIdeal.sig) → Buf (Elt Ideal) ℓ) (ρ : Dev ReferenceIdeal.nD → PrngReg)
    (v : (c : Dev ReferenceIdeal.nD) → FVec Ideal ReferenceIdeal.S_ .f32)
    (hv : ∀ c : Dev ReferenceIdeal.nD, ReferenceIdeal.Value.out (m ((c.tc : Thread ReferenceIdeal.nD ReferenceIdeal.τ).loc ReferenceIdeal.main_arg0))
      (m ((c.tc : Thread ReferenceIdeal.nD ReferenceIdeal.τ).loc ReferenceIdeal.main_arg1))
      (m ((c.tc : Thread ReferenceIdeal.nD ReferenceIdeal.τ).loc ReferenceIdeal.main_arg2))
      (m ((c.tc : Thread ReferenceIdeal.nD ReferenceIdeal.τ).loc ReferenceIdeal.main_arg3))
      (m ((c.tc : Thread ReferenceIdeal.nD ReferenceIdeal.τ).loc ReferenceIdeal.main_arg4)) = v c) :
    θ_run (ReferenceIdeal.defs (F := Ideal)) (onTc (τ := ReferenceIdeal.τ) (ReferenceIdeal.main (F := Ideal))) ⟨m, fun _ => 0, ρ⟩ (fun r => ∀ c : Dev ReferenceIdeal.nD,
      r.2.mem ((c.tc : Thread ReferenceIdeal.nD ReferenceIdeal.τ).loc ReferenceIdeal.main_v44) = v c
      ∧ r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)
      ∧ r.2.mem ((c.tc : Thread ReferenceIdeal.nD ReferenceIdeal.τ).loc ReferenceIdeal.main_arg2) = m ((c.tc : Thread ReferenceIdeal.nD ReferenceIdeal.τ).loc ReferenceIdeal.main_arg2)
      ∧ r.2.mem ((c.tc : Thread ReferenceIdeal.nD ReferenceIdeal.τ).loc ReferenceIdeal.main_arg3) = m ((c.tc : Thread ReferenceIdeal.nD ReferenceIdeal.τ).loc ReferenceIdeal.main_arg3)
      ∧ r.2.mem ((c.tc : Thread ReferenceIdeal.nD ReferenceIdeal.τ).loc ReferenceIdeal.main_arg4) = m ((c.tc : Thread ReferenceIdeal.nD ReferenceIdeal.τ).loc ReferenceIdeal.main_arg4)) :=
  (θ_run _ _ _).mono (fun r h c => ⟨(h c).1.trans (Eq.trans (by rfl) (hv c)), (h c).2⟩) (ReferenceIdeal.Value.run m ρ)

/-- The reference leaves its arguments unchanged and every semaphore counter at zero. -/
theorem reference_frame : quiescent_ReferenceIdeal := fun m ρ _ =>
  (θ_run _ _ _).mono (fun r h => ⟨fun c => (h c).2, sem_eq_zero_of_no_sems (by decide) _⟩) (ReferenceIdeal.Value.run m ρ)

/-- Kernel and reference end with the same number. -/
theorem same_value : algebraic_KernelIdeal_ReferenceIdeal := fun m ρ m' ρ' _ hagree =>
  ⟨fun c => KernelIdeal.Body.result m c, KernelIdeal.Body.result_run m ρ, reference_run m' ρ' (fun c => KernelIdeal.Body.result m c) fun c => by
    obtain ⟨h0, h1, h2, h3, h4⟩ := hagree c
    exact (congr (congr (congr (congr (congrArg ReferenceIdeal.Value.out h0) h1) h2) h3) h4).trans (values_agree m c).symm⟩

theorem claim : Cert.Claim := ⟨Cert.Kernel.Gen.facts, Cert.KernelIdeal.Gen.facts, Cert.ReferenceIdeal.Gen.facts,
  fun m ρ _ => Cert.Same.frame m ρ, fun m ρ _ => Cert.KernelIdeal.Body.frame m ρ, reference_frame, trivial, same_value⟩

end Cert.Proof

end
